-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_and_finite_KernelIdeal [hPre_routed_and_finite_KernelIdeal : Cert.Pre_routed_and_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_and_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_routed_and_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_routed_and_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_and_finite_ReferenceIdeal [hPre_routed_and_finite_ReferenceIdeal : Cert.Pre_routed_and_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_and_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_routed_and_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_routed_and_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_and_finite_KernelIdeal [hKernelIdeal : Cert.KernelIdeal.Facts] [hPre_routed_and_finite_KernelIdeal : Cert.Pre_routed_and_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_and_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_and_finite_ReferenceIdeal [hReferenceIdeal : Cert.ReferenceIdeal.Facts] [hPre_routed_and_finite_ReferenceIdeal : Cert.Pre_routed_and_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_and_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_127" .f32 0x3C010204#32 ((1 / 127 : ℝ) : EReal)

def algebraic_KernelIdeal_ReferenceIdeal_pre_routed_and_finite_KernelIdeal [hKernelIdeal : Cert.KernelIdeal.Facts] [hReferenceIdeal : Cert.ReferenceIdeal.Facts] [hPre_routed_and_finite_KernelIdeal : Cert.Pre_routed_and_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_and_finite_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![4096, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 2]⟩ ⟨2, ![4096, 2]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![16, 256, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![4096, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v50) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_and_finite_KernelIdeal : Cert.Pre_routed_and_finite_KernelIdeal.Facts) (hPre_routed_and_finite_ReferenceIdeal : Cert.Pre_routed_and_finite_ReferenceIdeal.Facts),
    quiescent_Kernel (hKernel := hKernel)
    ∧ quiescent_KernelIdeal (hKernelIdeal := hKernelIdeal)
    ∧ quiescent_KernelIdeal_pre_routed_and_finite_KernelIdeal (hKernelIdeal := hKernelIdeal) (hPre_routed_and_finite_KernelIdeal := hPre_routed_and_finite_KernelIdeal)
    ∧ quiescent_ReferenceIdeal (hReferenceIdeal := hReferenceIdeal)
    ∧ quiescent_ReferenceIdeal_pre_routed_and_finite_ReferenceIdeal (hReferenceIdeal := hReferenceIdeal) (hPre_routed_and_finite_ReferenceIdeal := hPre_routed_and_finite_ReferenceIdeal)
    ∧ preserves_Kernel_KernelIdeal
    ∧ algebraic_KernelIdeal_ReferenceIdeal_pre_routed_and_finite_KernelIdeal (hKernelIdeal := hKernelIdeal) (hReferenceIdeal := hReferenceIdeal) (hPre_routed_and_finite_KernelIdeal := hPre_routed_and_finite_KernelIdeal)
-- ==== Pre_routed_and_finite_KernelIdeal.lean ====
abbrev S1024x256 : Shape := ⟨2, ![1024, 256]⟩
abbrev S256x16 : Shape := ⟨2, ![256, 16]⟩
abbrev S1024x2 : Shape := ⟨2, ![1024, 2]⟩
abbrev S4x256x512 : Shape := ⟨3, ![4, 256, 512]⟩
abbrev S_ : Shape := ⟨0, ![]⟩

class Facts : Prop where
  bcast_S_S1024x2 : S_.BroadcastsInDim S1024x2 (![] : Fin 0 → Fin S1024x2.rank)
  bcast_S_S1024x256 : S_.BroadcastsInDim S1024x256 (![] : Fin 0 → Fin S1024x256.rank)
  bcast_S_S256x16 : S_.BroadcastsInDim S256x16 (![] : Fin 0 → Fin S256x16.rank)

variable [Facts]

def fn {F : FTy → Type} [FloatOps F] (main_arg0 : FVec F S1024x256 .f32) (main_arg1 : FVec F S256x16 .f32) (main_arg2 : IVec S1024x2 32) (main_arg3 : FVec F S4x256x512 .f32) : IVec S1024x2 1 × IVec S1024x256 1 × IVec S256x16 1 :=
  let main_c : IVec S_ 32 := constantI S_ 32 0#32
  let main_v0 : IVec S1024x2 32 := broadcastInDim S1024x2 ![] bcast_S_S1024x2 main_c
  let main_v1 : IVec S1024x2 1 := cmpi .sge main_arg2 main_v0
  let main_c_0 : IVec S_ 32 := constantI S_ 32 16#32
  let main_v2 : IVec S1024x2 32 := broadcastInDim S1024x2 ![] bcast_S_S1024x2 main_c_0
  let main_v3 : IVec S1024x2 1 := cmpi .slt main_arg2 main_v2
  let main_v4 : IVec S1024x2 1 := andi main_v1 main_v3
  let main_v5 : FVec F S1024x256 .f32 := Host.absf main_arg0
  let main_cst : FVec F S_ .f32 := constant S_ .f32 0x7F800000#32
  let main_v6 : FVec F S1024x256 .f32 := broadcastInDim S1024x256 ![] bcast_S_S1024x256 main_cst
  let main_v7 : IVec S1024x256 1 := cmpf .olt main_v5 main_v6
  let main_v8 : FVec F S256x16 .f32 := Host.absf main_arg1
  let main_cst_1 : FVec F S_ .f32 := constant S_ .f32 0x7F800000#32
  let main_v9 : FVec F S256x16 .f32 := broadcastInDim S256x16 ![] bcast_S_S256x16 main_cst_1
  let main_v10 : IVec S256x16 1 := cmpf .olt main_v8 main_v9
  (main_v4, main_v7, main_v10)
-- ==== Pre_routed_and_finite_ReferenceIdeal.lean ====
abbrev S4096x256 : Shape := ⟨2, ![4096, 256]⟩
abbrev S256x16 : Shape := ⟨2, ![256, 16]⟩
abbrev S4096x2 : Shape := ⟨2, ![4096, 2]⟩
abbrev S16x256x512 : Shape := ⟨3, ![16, 256, 512]⟩
abbrev S_ : Shape := ⟨0, ![]⟩

class Facts : Prop where
  bcast_S_S4096x2 : S_.BroadcastsInDim S4096x2 (![] : Fin 0 → Fin S4096x2.rank)
  bcast_S_S4096x256 : S_.BroadcastsInDim S4096x256 (![] : Fin 0 → Fin S4096x256.rank)
  bcast_S_S256x16 : S_.BroadcastsInDim S256x16 (![] : Fin 0 → Fin S256x16.rank)

variable [Facts]

def fn {F : FTy → Type} [FloatOps F] (main_arg0 : FVec F S4096x256 .f32) (main_arg1 : FVec F S256x16 .f32) (main_arg2 : IVec S4096x2 32) (main_arg3 : FVec F S16x256x512 .f32) : IVec S4096x2 1 × IVec S4096x256 1 × IVec S256x16 1 :=
  let main_c : IVec S_ 32 := constantI S_ 32 0#32
  let main_v0 : IVec S4096x2 32 := broadcastInDim S4096x2 ![] bcast_S_S4096x2 main_c
  let main_v1 : IVec S4096x2 1 := cmpi .sge main_arg2 main_v0
  let main_c_0 : IVec S_ 32 := constantI S_ 32 16#32
  let main_v2 : IVec S4096x2 32 := broadcastInDim S4096x2 ![] bcast_S_S4096x2 main_c_0
  let main_v3 : IVec S4096x2 1 := cmpi .slt main_arg2 main_v2
  let main_v4 : IVec S4096x2 1 := andi main_v1 main_v3
  let main_v5 : FVec F S4096x256 .f32 := Host.absf main_arg0
  let main_cst : FVec F S_ .f32 := constant S_ .f32 0x7F800000#32
  let main_v6 : FVec F S4096x256 .f32 := broadcastInDim S4096x256 ![] bcast_S_S4096x256 main_cst
  let main_v7 : IVec S4096x256 1 := cmpf .olt main_v5 main_v6
  let main_v8 : FVec F S256x16 .f32 := Host.absf main_arg1
  let main_cst_1 : FVec F S_ .f32 := constant S_ .f32 0x7F800000#32
  let main_v9 : FVec F S256x16 .f32 := broadcastInDim S256x16 ![] bcast_S_S256x16 main_cst_1
  let main_v10 : IVec S256x16 1 := cmpf .olt main_v8 main_v9
  (main_v4, main_v7, main_v10)
-- ==== Kernel.lean ====
abbrev S1024x256 : Shape := ⟨2, ![1024, 256]⟩
abbrev S256x16 : Shape := ⟨2, ![256, 16]⟩
abbrev S1024x2 : Shape := ⟨2, ![1024, 2]⟩
abbrev S4x256x512 : Shape := ⟨3, ![4, 256, 512]⟩
abbrev S1024x512 : Shape := ⟨2, ![1024, 512]⟩
abbrev S4x4x256x512 : Shape := ⟨4, ![4, 4, 256, 512]⟩
abbrev S4x4x512 : Shape := ⟨3, ![4, 4, 512]⟩
abbrev S3 : Shape := ⟨1, ![3]⟩
abbrev S_ : Shape := ⟨0, ![]⟩
abbrev S4x512 : Shape := ⟨2, ![4, 512]⟩
abbrev S4x1x512 : Shape := ⟨3, ![4, 1, 512]⟩
abbrev S1x4x256x512 : Shape := ⟨4, ![1, 4, 256, 512]⟩
abbrev S1x4x512 : Shape := ⟨3, ![1, 4, 512]⟩
abbrev S1 : Shape := ⟨1, ![1]⟩
abbrev S1024x16 : Shape := ⟨2, ![1024, 16]⟩
abbrev S1024x1 : Shape := ⟨2, ![1024, 1]⟩
abbrev S1024 : Shape := ⟨1, ![1024]⟩
abbrev S1x256x512 : Shape := ⟨3, ![1, 256, 512]⟩
abbrev S256x512 : Shape := ⟨2, ![256, 512]⟩
abbrev S1x1x256x512 : Shape := ⟨4, ![1, 1, 256, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S1024x256, .f32⟩
  | .hbm, ⟨1, _⟩ => ⟨S256x16, .f32⟩
  | .hbm, ⟨2, _⟩ => ⟨S1024x2, .i32⟩
  | .hbm, ⟨3, _⟩ => ⟨S4x256x512, .f32⟩
  | .hbm, ⟨4, _⟩ => ⟨S1024x512, .f32⟩
  | .local _ .vmem, ⟨0, _⟩ => ⟨S1024x256, .f32⟩
  | .local _ .vmem, ⟨1, _⟩ => ⟨S256x16, .f32⟩
  | .local _ .vmem, ⟨2, _⟩ => ⟨S1024x2, .i32⟩
  | .local _ .vmem, ⟨3, _⟩ => ⟨S4x256x512, .f32⟩
  | .local _ .vmem, ⟨4, _⟩ => ⟨S1024x512, .f32⟩
  | .local _ .vmem, ⟨5, _⟩ => ⟨S4x4x256x512, .i8⟩
  | .local _ .vmem, ⟨6, _⟩ => ⟨S4x4x512, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_40 : BitVec 32 := 1#32
  let v64 : BitVec 32 := Scalar.addi v2 c1_i32_40
  let c4_i32_41 : BitVec 32 := 4#32
  let c0_i32_42 : BitVec 32 := 0#32
  let v65 : BitVec 1 := Scalar.cmpi .eq c4_i32_41 c0_i32_42
  let c1_i32_43 : BitVec 32 := 1#32
  let v66 : BitVec 32 := Scalar.select v65 c1_i32_43 c4_i32_41
  let v67 : BitVec 32 := Scalar.remsi v64 v66
  let c0_i32_45 : BitVec 32 := 0#32
  let v69 : BitVec 1 := Scalar.cmpi .slt v67 c0_i32_45
  let c0_i32_46 : BitVec 32 := 0#32
  let v70 : BitVec 1 := Scalar.cmpi .slt v66 c0_i32_46
  let v71 : BitVec 1 := Scalar.xori v69 v70
  let c0_i32_44 : BitVec 32 := 0#32
  let v68 : BitVec 1 := Scalar.cmpi .ne v67 c0_i32_44
  let v72 : BitVec 1 := Scalar.andi v71 v68
  let v73 : BitVec 32 := Scalar.addi v67 v66
  let v74 : BitVec 32 := Scalar.select v72 v73 v67
  let c1_i32_51 : BitVec 32 := 1#32
  let v75 : BitVec 32 := Scalar.muli v74 c1_i32_51
  let v76 : BitVec 32 := Scalar.addi c0_i32_52 v75
  v76.toNat
def k0_dev5 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_40 : BitVec 32 := 1#32
  let v64 : BitVec 32 := Scalar.addi v2 c1_i32_40
  let c4_i32_41 : BitVec 32 := 4#32
  let c0_i32_42 : BitVec 32 := 0#32
  let v65 : BitVec 1 := Scalar.cmpi .eq c4_i32_41 c0_i32_42
  let c1_i32_43 : BitVec 32 := 1#32
  let v66 : BitVec 32 := Scalar.select v65 c1_i32_43 c4_i32_41
  let v67 : BitVec 32 := Scalar.remsi v64 v66
  let c0_i32_45 : BitVec 32 := 0#32
  let v69 : BitVec 1 := Scalar.cmpi .slt v67 c0_i32_45
  let c0_i32_46 : BitVec 32 := 0#32
  let v70 : BitVec 1 := Scalar.cmpi .slt v66 c0_i32_46
  let v71 : BitVec 1 := Scalar.xori v69 v70
  let c0_i32_44 : BitVec 32 := 0#32
  let v68 : BitVec 1 := Scalar.cmpi .ne v67 c0_i32_44
  let v72 : BitVec 1 := Scalar.andi v71 v68
  let v73 : BitVec 32 := Scalar.addi v67 v66
  let v74 : BitVec 32 := Scalar.select v72 v73 v67
  let c1_i32_61 : BitVec 32 := 1#32
  let v85 : BitVec 32 := Scalar.muli v74 c1_i32_61
  let v86 : BitVec 32 := Scalar.addi c0_i32_62 v85
  v86.toNat
def k0_dev6 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_69 : BitVec 32 := 2#32
  let v95 : BitVec 32 := Scalar.addi v2 c2_i32_69
  let c4_i32_70 : BitVec 32 := 4#32
  let c0_i32_71 : BitVec 32 := 0#32
  let v96 : BitVec 1 := Scalar.cmpi .eq c4_i32_70 c0_i32_71
  let c1_i32_72 : BitVec 32 := 1#32
  let v97 : BitVec 32 := Scalar.select v96 c1_i32_72 c4_i32_70
  let v98 : BitVec 32 := Scalar.remsi v95 v97
  let c0_i32_74 : BitVec 32 := 0#32
  let v100 : BitVec 1 := Scalar.cmpi .slt v98 c0_i32_74
  let c0_i32_75 : BitVec 32 := 0#32
  let v101 : BitVec 1 := Scalar.cmpi .slt v97 c0_i32_75
  let v102 : BitVec 1 := Scalar.xori v100 v101
  let c0_i32_73 : BitVec 32 := 0#32
  let v99 : BitVec 1 := Scalar.cmpi .ne v98 c0_i32_73
  let v103 : BitVec 1 := Scalar.andi v102 v99
  let v104 : BitVec 32 := Scalar.addi v98 v97
  let v105 : BitVec 32 := Scalar.select v103 v104 v98
  let c1_i32_80 : BitVec 32 := 1#32
  let v106 : BitVec 32 := Scalar.muli v105 c1_i32_80
  let v107 : BitVec 32 := Scalar.addi c0_i32_81 v106
  v107.toNat
def k0_dev7 (d0 : Dev nD) : Nat :=
  let c0_i32_91 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_69 : BitVec 32 := 2#32
  let v95 : BitVec 32 := Scalar.addi v2 c2_i32_69
  let c4_i32_70 : BitVec 32 := 4#32
  let c0_i32_71 : BitVec 32 := 0#32
  let v96 : BitVec 1 := Scalar.cmpi .eq c4_i32_70 c0_i32_71
  let c1_i32_72 : BitVec 32 := 1#32
  let v97 : BitVec 32 := Scalar.select v96 c1_i32_72 c4_i32_70
  let v98 : BitVec 32 := Scalar.remsi v95 v97
  let c0_i32_74 : BitVec 32 := 0#32
  let v100 : BitVec 1 := Scalar.cmpi .slt v98 c0_i32_74
  let c0_i32_75 : BitVec 32 := 0#32
  let v101 : BitVec 1 := Scalar.cmpi .slt v97 c0_i32_75
  let v102 : BitVec 1 := Scalar.xori v100 v101
  let c0_i32_73 : BitVec 32 := 0#32
  let v99 : BitVec 1 := Scalar.cmpi .ne v98 c0_i32_73
  let v103 : BitVec 1 := Scalar.andi v102 v99
  let v104 : BitVec 32 := Scalar.addi v98 v97
  let v105 : BitVec 32 := Scalar.select v103 v104 v98
  let c1_i32_90 : BitVec 32 := 1#32
  let v116 : BitVec 32 := Scalar.muli v105 c1_i32_90
  let v117 : BitVec 32 := Scalar.addi c0_i32_91 v116
  v117.toNat
def k0_dev8 (d0 : Dev nD) : Nat :=
  let c0_i32_110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_98 : BitVec 32 := 3#32
  let v126 : BitVec 32 := Scalar.addi v2 c3_i32_98
  let c4_i32_99 : BitVec 32 := 4#32
  let c0_i32_100 : BitVec 32 := 0#32
  let v127 : BitVec 1 := Scalar.cmpi .eq c4_i32_99 c0_i32_100
  let c1_i32_101 : BitVec 32 := 1#32
  let v128 : BitVec 32 := Scalar.select v127 c1_i32_101 c4_i32_99
  let v129 : BitVec 32 := Scalar.remsi v126 v128
  let c0_i32_103 : BitVec 32 := 0#32
  let v131 : BitVec 1 := Scalar.cmpi .slt v129 c0_i32_103
  let c0_i32_104 : BitVec 32 := 0#32
  let v132 : BitVec 1 := Scalar.cmpi .slt v128 c0_i32_104
  let v133 : BitVec 1 := Scalar.xori v131 v132
  let c0_i32_102 : BitVec 32 := 0#32
  let v130 : BitVec 1 := Scalar.cmpi .ne v129 c0_i32_102
  let v134 : BitVec 1 := Scalar.andi v133 v130
  let v135 : BitVec 32 := Scalar.addi v129 v128
  let v136 : BitVec 32 := Scalar.select v134 v135 v129
  let c1_i32_109 : BitVec 32 := 1#32
  let v137 : BitVec 32 := Scalar.muli v136 c1_i32_109
  let v138 : BitVec 32 := Scalar.addi c0_i32_110 v137
  v138.toNat
def k0_dev9 (d0 : Dev nD) : Nat :=
  let c0_i32_120 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_98 : BitVec 32 := 3#32
  let v126 : BitVec 32 := Scalar.addi v2 c3_i32_98
  let c4_i32_99 : BitVec 32 := 4#32
  let c0_i32_100 : BitVec 32 := 0#32
  let v127 : BitVec 1 := Scalar.cmpi .eq c4_i32_99 c0_i32_100
  let c1_i32_101 : BitVec 32 := 1#32
  let v128 : BitVec 32 := Scalar.select v127 c1_i32_101 c4_i32_99
  let v129 : BitVec 32 := Scalar.remsi v126 v128
  let c0_i32_103 : BitVec 32 := 0#32
  let v131 : BitVec 1 := Scalar.cmpi .slt v129 c0_i32_103
  let c0_i32_104 : BitVec 32 := 0#32
  let v132 : BitVec 1 := Scalar.cmpi .slt v128 c0_i32_104
  let v133 : BitVec 1 := Scalar.xori v131 v132
  let c0_i32_102 : BitVec 32 := 0#32
  let v130 : BitVec 1 := Scalar.cmpi .ne v129 c0_i32_102
  let v134 : BitVec 1 := Scalar.andi v133 v130
  let v135 : BitVec 32 := Scalar.addi v129 v128
  let v136 : BitVec 32 := Scalar.select v134 v135 v129
  let c1_i32_119 : BitVec 32 := 1#32
  let v147 : BitVec 32 := Scalar.muli v136 c1_i32_119
  let v148 : BitVec 32 := Scalar.addi c0_i32_120 v147
  v148.toNat
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F] [Named F]
def κ : String → Option EReal := fun
  | "inv_127" => some ((1 / 127 : ℝ) : EReal)
  | _ => none
-- ==== ReferenceIdeal.lean ====
abbrev S4096x256 : Shape := ⟨2, ![4096, 256]⟩
abbrev S256x16 : Shape := ⟨2, ![256, 16]⟩
abbrev S4096x2 : Shape := ⟨2, ![4096, 2]⟩
abbrev S16x256x512 : Shape := ⟨3, ![16, 256, 512]⟩
abbrev S4096x16 : Shape := ⟨2, ![4096, 16]⟩
abbrev S_ : Shape := ⟨0, ![]⟩
abbrev S4096 : Shape := ⟨1, ![4096]⟩
abbrev S4096x1 : Shape := ⟨2, ![4096, 1]⟩
abbrev S4096x2x1 : Shape := ⟨3, ![4096, 2, 1]⟩
abbrev S16x512 : Shape := ⟨2, ![16, 512]⟩
abbrev S16x1x512 : Shape := ⟨3, ![16, 1, 512]⟩
abbrev S4096x16x512 : Shape := ⟨3, ![4096, 16, 512]⟩
abbrev S16 : Shape := ⟨1, ![16]⟩
abbrev S1x16 : Shape := ⟨2, ![1, 16]⟩
abbrev S4096x16x1 : Shape := ⟨3, ![4096, 16, 1]⟩
abbrev S4096x2x512 : Shape := ⟨3, ![4096, 2, 512]⟩
abbrev S4096x512 : Shape := ⟨2, ![4096, 512]⟩

abbrev nBuf : Space → Nat
  | .hbm => 88
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x16, .f32⟩
  | .hbm, ⟨2, _⟩ => ⟨S4096x2, .i32⟩
  | .hbm, ⟨3, _⟩ => ⟨S16x256x512, .f32⟩
  | .hbm, ⟨4, _⟩ => ⟨S4096x16, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x16, .f32⟩
  | .hbm, ⟨9, _⟩ => ⟨S4096x16, .f32⟩
  | .hbm, ⟨10, _⟩ => ⟨S4096x16, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x16, .f32⟩
  | .hbm, ⟨15, _⟩ => ⟨S4096x16, .f32⟩
  | .hbm, ⟨16, _⟩ => ⟨S_, .i32⟩
  | .hbm, ⟨17, _⟩ => ⟨S4096x2, .i32⟩
  | .hbm, ⟨18, _⟩ => ⟨S4096x2, .i1⟩
  | .hbm, ⟨19, _⟩ => ⟨S_, .i32⟩
  | .hbm, ⟨20, _⟩ => ⟨S4096x2, .i32⟩
  | .hbm, ⟨21, _⟩ => ⟨S4096x2, .i32⟩
  | .hbm, ⟨22, _⟩ => ⟨S4096x2, .i32⟩
  | .hbm, ⟨23, _⟩ => ⟨S4096x2x1, .i32⟩
  | .hbm, ⟨24, _⟩ => ⟨S4096x2, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S4096x2, .f32⟩
  | .hbm, ⟨29, _⟩ => ⟨S4096x2, .f32⟩
  | .hbm, ⟨30, _⟩ => ⟨S16x256x512, .f32⟩
  | .hbm, ⟨31, _⟩ => ⟨S_, .f32⟩
  | .hbm, ⟨32, _⟩ => ⟨S16x512, .f32⟩
  | .hbm, ⟨33, _⟩ => ⟨S16x1x512, .f32⟩
  | .hbm, ⟨34, _⟩ => ⟨S_, .f32⟩
  | .hbm, ⟨35, _⟩ => ⟨S16x1x512, .f32⟩
  | .hbm, ⟨36, _⟩ => ⟨S16x1x512, .f32⟩
  | .hbm, ⟨37, _⟩ => ⟨S_, .f32⟩
  | .hbm, ⟨38, _⟩ => ⟨S16x1x512, .f32⟩
  | .hbm, ⟨39, _⟩ => ⟨S16x1x512, .f32⟩
  | .hbm, ⟨40, _⟩ => ⟨S16x256x512, .f32⟩
  | .hbm, ⟨41, _⟩ => ⟨S16x256x512, .f32⟩
  | .hbm, ⟨42, _⟩ => ⟨S16x256x512, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S16x256x512, .f32⟩
  | .hbm, ⟨47, _⟩ => ⟨S16x256x512, .f32⟩
  | .hbm, ⟨48, _⟩ => ⟨S_, .f32⟩
  | .hbm, ⟨49, _⟩ => ⟨S16x256x512, .f32⟩
  | .hbm, ⟨50, _⟩ => ⟨S16x256x512, .f32⟩
  | .hbm, ⟨51, _⟩ => ⟨S_, .f32⟩
  | .hbm, ⟨52, _⟩ => ⟨S16x1x512, .f32⟩
  | .hbm, ⟨53, _⟩ => ⟨S16x1x512, .f32⟩
  | .hbm, ⟨54, _⟩ => ⟨S16x256x512, .f32⟩
  | .hbm, ⟨55, _⟩ => ⟨S16x256x512, .f32⟩
  | .hbm, ⟨56, _⟩ => ⟨S4096x16x512, .f32⟩
  | .hbm, ⟨57, _⟩ => ⟨S4096x16x512, .f32⟩
  | .hbm, ⟨58, _⟩ => ⟨S4096, .i32⟩
  | .hbm, ⟨59, _⟩ => ⟨S_, .i32⟩
  | .hbm, ⟨60, _⟩ => ⟨S4096, .i32⟩
  | .hbm, ⟨61, _⟩ => ⟨S4096, .i32⟩
  | .hbm, ⟨62, _⟩ => ⟨S16, .i32⟩
  | .hbm, ⟨63, _⟩ => ⟨S_, .i32⟩
  | .hbm, ⟨64, _⟩ => ⟨S16, .i32⟩
  | .hbm, ⟨65, _⟩ => ⟨S16, .i32⟩
  | .hbm, ⟨66, _⟩ => ⟨S4096x1, .i32⟩
  | .hbm, ⟨67, _⟩ => ⟨S1x16, .i32⟩
  | .hbm, ⟨68, _⟩ => ⟨S4096x16, .i32⟩
  | .hbm, ⟨69, _⟩ => ⟨S4096x16, .i32⟩
  | .hbm, ⟨70, _⟩ => ⟨S4096x16, .i1⟩
  | .hbm, ⟨71, _⟩ => ⟨S4096x16x1, .i1⟩
  | .hbm, ⟨72, _⟩ => ⟨S4096x16x512, .i1⟩
  | .hbm, ⟨73, _⟩ => ⟨S4096x16x512, .f32⟩
  | .hbm, ⟨74, _⟩ => ⟨S4096x2x1, .i32⟩
  | .hbm, ⟨75, _⟩ => ⟨S_, .i32⟩
  | .hbm, ⟨76, _⟩ => ⟨S4096x2x1, .i32⟩
  | .hbm, ⟨77, _⟩ => ⟨S4096x2x1, .i1⟩
  | .hbm, ⟨78, _⟩ => ⟨S_, .i32⟩
  | .hbm, ⟨79, _⟩ => ⟨S4096x2x1, .i32⟩
  | .hbm, ⟨80, _⟩ => ⟨S4096x2x1, .i32⟩
  | .hbm, ⟨81, _⟩ => ⟨S4096x2x1, .i32⟩
  | .hbm, ⟨82, _⟩ => ⟨S4096x2x512, .f32⟩
  | .hbm, ⟨83, _⟩ => ⟨S4096x2x1, .f32⟩
  | .hbm, ⟨84, _⟩ => ⟨S4096x2x512, .f32⟩
  | .hbm, ⟨85, _⟩ => ⟨S4096x2x512, .f32⟩
  | .hbm, ⟨86, _⟩ => ⟨S_, .f32⟩
  | .hbm, ⟨87, _⟩ => ⟨S4096x512, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_cst_6 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_v25 : Ref sig .tc := ⟨.hbm, 50, rfl⟩
abbrev main_cst_7 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_c_8 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_call3_v0 : Ref sig .tc := ⟨.hbm, 72, rfl⟩
abbrev main_v44 : Ref sig .tc := ⟨.hbm, 73, rfl⟩
abbrev main_v45 : Ref sig .tc := ⟨.hbm, 74, rfl⟩
abbrev main_call4_c : Ref sig .tc := ⟨.hbm, 75, rfl⟩
abbrev main_call4_v0 : Ref sig .tc := ⟨.hbm, 76, rfl⟩
abbrev main_call4_v1 : Ref sig .tc := ⟨.hbm, 77, rfl⟩
abbrev main_call4_c_0 : Ref sig .tc := ⟨.hbm, 78, rfl⟩
abbrev main_call4_v2 : Ref sig .tc := ⟨.hbm, 79, rfl⟩
abbrev main_call4_v3 : Ref sig .tc := ⟨.hbm, 80, rfl⟩
abbrev main_call4_v4 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst_9 : Ref sig .tc := ⟨.hbm, 86, rfl⟩
abbrev main_v50 : Ref sig .tc := ⟨.hbm, 87, rfl⟩

abbrev nD : Nat := 1
abbrev τ : Topo := Topo.v7x

variable {F : FTy → Type} [FloatOps F]
-- ==== Proof.IProto.lean ====
/-
The protocol of the kernel: its cells, what each of them hands over, who owes what, and in which order waits may be met.

Every device has one slot of each scratch buffer for itself (slot 0: its own quantised weights) and one per peer. A device
tells each peer that the peer may write its slot of that peer (the barrier), then sends its own slot 0 to the same slot of
all three peers, the three copies reading a third of it each.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Ring
public import Idealize.ShloMosaic.Lib.Ring.Trips
public import Idealize.ShloMosaic.Lib.Pointwise.Index
public import Idealize.ShloMosaic.Lib.Tactic

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The peers -/

set_option backward.proofsInPublic true in
/-- The device `k` places on. -/
def sh (k : ℕ) (c : Dev nD) : Dev nD := ⟨(c.val + k) % 4, Nat.mod_lt _ (by decide)⟩

theorem dev1_eq (c : Dev nD) : (⟨k0_dev1 c, k0_dev1_lt c⟩ : Dev nD) = sh 1 c := by revert c; decide
theorem dev2_eq (c : Dev nD) : (⟨k0_dev2 c, k0_dev2_lt c⟩ : Dev nD) = sh 2 c := by revert c; decide
theorem dev3_eq (c : Dev nD) : (⟨k0_dev3 c, k0_dev3_lt c⟩ : Dev nD) = sh 3 c := by revert c; decide
theorem dev4_eq (c : Dev nD) : (⟨k0_dev4 c, k0_dev4_lt c⟩ : Dev nD) = sh 1 c := by revert c; decide
theorem dev5_eq (c : Dev nD) : (⟨k0_dev5 c, k0_dev5_lt c⟩ : Dev nD) = sh 1 c := by revert c; decide
theorem dev6_eq (c : Dev nD) : (⟨k0_dev6 c, k0_dev6_lt c⟩ : Dev nD) = sh 2 c := by revert c; decide
theorem dev7_eq (c : Dev nD) : (⟨k0_dev7 c, k0_dev7_lt c⟩ : Dev nD) = sh 2 c := by revert c; decide
theorem dev8_eq (c : Dev nD) : (⟨k0_dev8 c, k0_dev8_lt c⟩ : Dev nD) = sh 3 c := by revert c; decide
theorem dev9_eq (c : Dev nD) : (⟨k0_dev9 c, k0_dev9_lt c⟩ : Dev nD) = sh 3 c := by revert c; decide

theorem sh13 (c : Dev nD) : sh 1 (sh 3 c) = c := by revert c; decide
theorem sh31 (c : Dev nD) : sh 3 (sh 1 c) = c := by revert c; decide
theorem sh22 (c : Dev nD) : sh 2 (sh 2 c) = c := by revert c; decide

/-! ## The slots -/

theorem h04 : 0 < 4 := by decide
theorem h14 : 1 < 4 := by decide
theorem h24 : 2 < 4 := by decide
theorem h34 : 3 < 4 := by decide

theorem inbQ (j : ℕ) (hj : j < 4) : ∀ a, (![j, 0, 0, 0] : Fin 4 → Nat) a + S1x4x256x512.size a ≤ S4x4x256x512.size a := by
  intro a; fin_cases a
  · show j + 1 ≤ 4; omega
  · exact le_refl 4
  · exact le_refl 256
  · exact le_refl 512
theorem inbS (j : ℕ) (hj : j < 4) : ∀ a, (![j, 0, 0] : Fin 3 → Nat) a + S1x4x512.size a ≤ S4x4x512.size a := by
  intro a; fin_cases a
  · show j + 1 ≤ 4; omega
  · exact le_refl 4
  · exact le_refl 512

/-- Slot `j` of the quantised weights, -/
abbrev qM (j : ℕ) (hj : j < 4) : Memref sig .tc .vmem S4x256x512 .i8 :=
  ((Memref.whole cc0_scratch0).slice (Rect.unit (s := S4x4x256x512) ![j, 0, 0, 0] S1x4x256x512.size (inbQ j hj)) (fun _ => rfl)).squeeze S4x256x512 squeezes_S1x4x256x512_S4x256x512
/-- and of the scales. -/
abbrev sM (j : ℕ) (hj : j < 4) : Memref sig .tc .vmem S4x512 .f32 :=
  ((Memref.whole cc0_scratch1).slice (Rect.unit (s := S4x4x512) ![j, 0, 0] S1x4x512.size (inbS j hj)) (fun _ => rfl)).squeeze S4x512 squeezes_S1x4x512_S4x512

abbrev NQ : ℕ := (qM 1 h14).view.dmaCredit
abbrev NS : ℕ := (sM 1 h14).view.dmaCredit
theorem NQ_pos : 0 < NQ := View.dmaCredit_pos _ (by decide)
theorem NS_pos : 0 < NS := View.dmaCredit_pos _ (by decide)

/-! ## The contents -/

/-- The staged blocks of device `c`: its tokens, the router's weights, its routing, its experts' weights. -/
abbrev xin (c : Dev nD) : (cc0_stg0_0 : Ref sig .tc).ty.Contents (Elt F) := iblk m c 0 t0_0
abbrev rin (c : Dev nD) : (cc0_stg1_0 : Ref sig .tc).ty.Contents (Elt F) := iblk m c 1 t0_0
abbrev iin (c : Dev nD) : (cc0_stg2_0 : Ref sig .tc).ty.Contents (Elt F) := iblk m c 2 t0_0
abbrev ein (c : Dev nD) : (cc0_stg3_0 : Ref sig .tc).ty.Contents (Elt F) := iblk m c 3 t0_0

/-- The two scratch buffers' contents. -/
abbrev QC (F : FTy → Type) : Type := (cc0_scratch0 : Ref sig .tc).ty.Contents (Elt F)
abbrev SC (F : FTy → Type) : Type := (cc0_scratch1 : Ref sig .tc).ty.Contents (Elt F)
/-- Device `d`'s quantised weights, the same in every slot; -/
def qAll (d : Dev nD) : QC F :=
  fun i : S4x4x256x512.Idx => k0_pay3 (F := F) (ein m d) (ix4 (0 : Fin 1) (i 1) (i 2) (i 3))
/-- its scales, likewise. -/
def sAll (d : Dev nD) : SC F :=
  fun i : S4x4x512.Idx => k0_pay4 (F := F) (ein m d) (ix3 (0 : Fin 1) (i 1) (i 2))

/-- Slot `j` of device `c`'s quantised weights at contents `f`, held at share `q`; -/
def qPts (j : ℕ) (hj : j < 4) (c : Dev nD) (q : PosShare TreeShare) (f : QC F) : sProp 𝕄 :=
  (c : Thread nD τ).loc cc0_scratch0 ↦[(qM j hj).view.set]{q} f
/-- and of its scales. -/
def sPts (j : ℕ) (hj : j < 4) (c : Dev nD) (q : PosShare TreeShare) (f : SC F) : sProp 𝕄 :=
  (c : Thread nD τ).loc cc0_scratch1 ↦[(sM j hj).view.set]{q} f

instance qPts_storable (j : ℕ) (hj) (c : Dev nD) (q) (f) : BI.Storable (upEmb : UEmb _ 𝕄) (qPts (F := F) j hj c q f) := by unfold qPts; infer_instance
instance sPts_storable (j : ℕ) (hj) (c : Dev nD) (q) (f) : BI.Storable (upEmb : UEmb _ 𝕄) (sPts (F := F) j hj c q f) := by unfold sPts; infer_instance

/-- What a barrier signal hands over: the signalling device's slot `j` of both scratch buffers, at some contents. -/
def slotPay (j : ℕ) (hj : j < 4) (d : Dev nD) : sProp 𝕄 := iprop((∃ f, qPts j hj d fullShare f) ∗ ∃ f, sPts j hj d fullShare f)
instance slotPay_storable (j : ℕ) (hj) (d : Dev nD) : BI.Storable (upEmb : UEmb _ 𝕄) (slotPay (F := F) j hj d) := by unfold slotPay; infer_instance

/-- A third of slot 0 at its own contents: what a finished copy gives back to its sender. -/
def qThird (i : Fin 3) (c : Dev nD) : sProp 𝕄 := qPts 0 h04 c (Ring.shares3 fullShare i) (qAll m c)
def sThird (i : Fin 3) (c : Dev nD) : sProp 𝕄 := sPts 0 h04 c (Ring.shares3 fullShare i) (sAll m c)
instance qThird_storable (i : Fin 3) (c : Dev nD) : BI.Storable (upEmb : UEmb _ 𝕄) (qThird (F := F) m i c) := by unfold qThird; infer_instance
instance sThird_storable (i : Fin 3) (c : Dev nD) : BI.Storable (upEmb : UEmb _ 𝕄) (sThird (F := F) m i c) := by unfold sThird; infer_instance

/-! ## The cells -/

abbrev barS : Sem sig := (SemArray.scalar (sig.barrier 0 rfl) : Sems sig S_).sem
/-- The thirteen semaphores, numbered: 0 the barrier; 1–3 and 4–6 the weights' send and receive; 7–9 and 10–12 the scales'. -/
abbrev csem : Fin 13 → SemLoc sig := fun j => if j.val = 0 then .reg barS else .dma ⟨j.val + 4, by have := j.isLt; show j.val + 4 < 17; omega⟩
/-- The twelve of them that are the kernel's own. -/
abbrev osem : Fin 12 → SemLoc sig := fun j => .dma ⟨j.val + 5, by have := j.isLt; show j.val + 5 < 17; omega⟩
abbrev kcell (ck : Dev nD × Fin 13) : GSem nD τ sig := ((ck.1 : Thread nD τ), csem ck.2)

theorem csem_inj : Function.Injective csem := by decide

/-- What completing cell `n` (a transfer semaphore's number) of device `c` hands to the device that waits on it. -/
def dmaPay (n : ℕ) (c : Dev nD) : sProp 𝕄 :=
  if n = 5 then qThird m 0 c else if n = 6 then qThird m 1 c else if n = 7 then qThird m 2 c
  else if n = 8 then qPts 1 h14 c fullShare (qAll m (sh 3 c))
  else if n = 9 then qPts 2 h24 c fullShare (qAll m (sh 2 c))
  else if n = 10 then qPts 3 h34 c fullShare (qAll m (sh 1 c))
  else if n = 11 then sThird m 0 c else if n = 12 then sThird m 1 c else if n = 13 then sThird m 2 c
  else if n = 14 then sPts 1 h14 c fullShare (sAll m (sh 3 c))
  else if n = 15 then sPts 2 h24 c fullShare (sAll m (sh 2 c))
  else if n = 16 then sPts 3 h34 c fullShare (sAll m (sh 1 c)) else iprop(emp)
/-- What duty `d` of device `c`'s barrier hands it: the slot it may write on the device `d + 1` places on. -/
def barPay (d : Fin 3) (c : Dev nD) : sProp 𝕄 :=
  match d with
  | 0 => slotPay 1 h14 (sh 1 c)
  | 1 => slotPay 2 h24 (sh 2 c)
  | 2 => slotPay 3 h34 (sh 3 c)

instance ite_storable (p : Prop) [Decidable p] (A B : sProp 𝕄) [hA : BI.Storable (upEmb : UEmb _ 𝕄) A] [hB : BI.Storable (upEmb : UEmb _ 𝕄) B] :
    BI.Storable (upEmb : UEmb _ 𝕄) (if p then A else B) := by
  by_cases h : p
  · rw [if_pos h]; exact hA
  · rw [if_neg h]; exact hB
instance dmaPay_storable (n : ℕ) (c : Dev nD) : BI.Storable (upEmb : UEmb _ 𝕄) (dmaPay (F := F) m n c) := by
  unfold dmaPay; infer_instance
instance barPay_storable (d : Fin 3) (c : Dev nD) : BI.Storable (upEmb : UEmb _ 𝕄) (barPay (F := F) d c) := by
  unfold barPay; split <;> infer_instance

/-- One round: the barrier has three duties of one unit, a transfer cell one duty of the transfer's credit. -/
def moeRd : Rounds.Schedule (GSem nD τ sig) (Fin 3) 𝕄 where
  duties g r := if r = 0 ∧ g.1.2 = .tc then (match g.2 with | .reg q => if q = barS then Finset.univ else ∅ | .dma q => if 5 ≤ q.val then {0} else ∅) else ∅
  unitless _ := False
  amount g _ _ := match g.2 with | .reg _ => 1 | .dma q => if q.val < 11 then NQ else NS
  payload g _ d := match g.2 with | .reg _ => barPay d g.1.1 | .dma q => dmaPay m q.val g.1.1
  amount_pos g _ _ _ := by
    split
    · exact Nat.one_pos
    · split
      · exact NQ_pos
      · exact NS_pos

instance moeRd_payload_storable (g : GSem nD τ sig) (r : ℕ) (d : Fin 3) :
    BI.Storable (upEmb : UEmb _ 𝕄) ((moeRd (F := F) m).payload g r d) := by
  show BI.Storable upEmb (match g.2 with | .reg _ => barPay d g.1.1 | .dma q => dmaPay m q.val g.1.1)
  split <;> infer_instance

theorem duties_bar (c : Dev nD) : (moeRd (F := F) m).duties ((c : Thread nD τ), .reg barS) 0 = Finset.univ := by
  dsimp only [moeRd]; rw [if_pos ⟨rfl, rfl⟩, if_pos rfl]
theorem duties_dma (c : Dev nD) (q : DmaSem sig) (hq : 5 ≤ q.val) : (moeRd (F := F) m).duties ((c : Thread nD τ), .dma q) 0 = {0} := by
  dsimp only [moeRd]; rw [if_pos ⟨rfl, rfl⟩, if_pos hq]
theorem duties_later (g : GSem nD τ sig) : ∀ r, 1 ≤ r → (moeRd (F := F) m).duties g r = ∅ :=
  fun r hr => by dsimp only [moeRd]; rw [if_neg fun h => by omega]
theorem amount_bar (c : Dev nD) (d : Fin 3) : (moeRd (F := F) m).amount ((c : Thread nD τ), .reg barS) 0 d = 1 := rfl
theorem expect_bar (c : Dev nD) : (moeRd (F := F) m).expect ((c : Thread nD τ), .reg barS) 0 = 3 := by
  unfold Schedule.expect Schedule.amountOf
  rw [duties_bar, Finset.sum_congr rfl fun d _ => amount_bar m c d, Finset.sum_const, Finset.card_univ, Fintype.card_fin, smul_eq_mul]
theorem rest_bar (c : Dev nD) : bigSep ((moeRd (F := F) m).duties ((c : Thread nD τ), .reg barS) 0 \ ∅) (fun d => (moeRd (F := F) m).payload ((c : Thread nD τ), .reg barS) 0 d)
    = iprop(slotPay 1 h14 (sh 1 c) ∗ slotPay 2 h24 (sh 2 c) ∗ slotPay 3 h34 (sh 3 c)) := by
  rw [Finset.sdiff_empty, duties_bar, bigSep_univ_eq_bigSepL [0, 1, 2] (by decide) (by decide), bigSepL_cons_cons, bigSepL_cons_cons, bigSepL_singleton]
  rfl

/-! ## What each device owes at launch; the levels -/

abbrev barCell (c : Dev nD) : GSem nD τ sig := ((c : Thread nD τ), .reg barS)
abbrev dmaCell (n : ℕ) (hn : n < 17) (c : Dev nD) : GSem nD τ sig := ((c : Thread nD τ), .dma (⟨n, hn⟩ : DmaSem sig))

/-- What is still owed before each of the six copies, and before each of the three signals. -/
def OQ3 (c : Dev nD) : CellTallies nD τ sig Unit := tallyAt (dmaCell 10 (by decide) (sh 3 c)) () NQ
def OS3 (c : Dev nD) : CellTallies nD τ sig Unit := OQ3 c + tallyAt (dmaCell 16 (by decide) (sh 3 c)) () NS
def OQ2 (c : Dev nD) : CellTallies nD τ sig Unit := OS3 c + tallyAt (dmaCell 9 (by decide) (sh 2 c)) () NQ
def OS2 (c : Dev nD) : CellTallies nD τ sig Unit := OQ2 c + tallyAt (dmaCell 15 (by decide) (sh 2 c)) () NS
def OQ1 (c : Dev nD) : CellTallies nD τ sig Unit := OS2 c + tallyAt (dmaCell 8 (by decide) (sh 1 c)) () NQ
def OS1 (c : Dev nD) : CellTallies nD τ sig Unit := OQ1 c + tallyAt (dmaCell 14 (by decide) (sh 1 c)) () NS
def OB3 (c : Dev nD) : CellTallies nD τ sig Unit := OS1 c + tallyAt (barCell (sh 3 c)) () 1
def OB2 (c : Dev nD) : CellTallies nD τ sig Unit := OB3 c + tallyAt (barCell (sh 2 c)) () 1
def O₀ (c : Dev nD) : CellTallies nD τ sig Unit := OB2 c + tallyAt (barCell (sh 1 c)) () 1

def L (g : GSem nD τ sig) : Finset Unit := if g.1.2 = .tc then {()} else ∅
/-- Barrier cells at 1, receive cells at 2, staging and send cells at 0. -/
def lv (g : GSem nD τ sig) (_ : Unit) : ℕ :=
  match g.2 with
  | .reg _ => 1
  | .dma q => if (8 ≤ q.val ∧ q.val ≤ 10) ∨ 14 ≤ q.val then 2 else 0

theorem L_tc (c : Dev nD) (sm : SemLoc sig) : L ((c : Thread nD τ), sm) = {()} := if_pos rfl
theorem L_of_ne (g : GSem nD τ sig) (h : g.1.2 ≠ .tc) : L g = ∅ := if_neg h

theorem pos_split {A B : CellTallies nD τ sig Unit} {g : GSem nD τ sig} {u : Unit} (h : 0 < (A + B) g u) : 0 < A g u ∨ 0 < B g u := by
  rw [Pi.add_apply, Finsupp.add_apply] at h; omega
theorem tally_pos {g' g : GSem nD τ sig} {n : ℕ} {u : Unit} (h : 0 < (tallyAt g' () n : CellTallies nD τ sig Unit) g u) : g = g' := by
  by_contra hn
  rw [tallyAt_apply, if_neg fun h' => hn h'.1] at h
  exact Nat.lt_irrefl 0 h

theorem OS1_pos {c : Dev nD} {g : GSem nD τ sig} {u : Unit} (h : 0 < OS1 c g u) : g.1.2 = .tc ∧ lv g u = 2 := by
  unfold OS1 at h; rcases pos_split h with h | h; swap; · rw [tally_pos h]; exact ⟨rfl, rfl⟩
  unfold OQ1 at h; rcases pos_split h with h | h; swap; · rw [tally_pos h]; exact ⟨rfl, rfl⟩
  unfold OS2 at h; rcases pos_split h with h | h; swap; · rw [tally_pos h]; exact ⟨rfl, rfl⟩
  unfold OQ2 at h; rcases pos_split h with h | h; swap; · rw [tally_pos h]; exact ⟨rfl, rfl⟩
  unfold OS3 at h; rcases pos_split h with h | h; swap; · rw [tally_pos h]; exact ⟨rfl, rfl⟩
  unfold OQ3 at h; rw [tally_pos h]; exact ⟨rfl, rfl⟩

theorem O₀_pos {c : Dev nD} {g : GSem nD τ sig} {u : Unit} (h : 0 < O₀ c g u) : g.1.2 = .tc ∧ 1 ≤ lv g u := by
  unfold O₀ at h; rcases pos_split h with h | h; swap; · rw [tally_pos h]; exact ⟨rfl, le_refl 1⟩
  unfold OB2 at h; rcases pos_split h with h | h; swap; · rw [tally_pos h]; exact ⟨rfl, le_refl 1⟩
  unfold OB3 at h; rcases pos_split h with h | h; swap; · rw [tally_pos h]; exact ⟨rfl, le_refl 1⟩
  exact ⟨(OS1_pos h).1, by rw [(OS1_pos h).2]; decide⟩

theorem mem_L {g : GSem nD τ sig} {u : Unit} (h : g.1.2 = .tc) : u ∈ L g := by unfold L; rw [if_pos h]; exact Finset.mem_singleton_self _

theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => mem_L (O₀_pos hg).1)
      (fun p hp => by rw [Finset.mem_singleton.mp hp]; dsimp only [lv]; rw [if_neg (by omega)])
      (fun g u hg => Nat.lt_of_lt_of_le Nat.zero_lt_one (O₀_pos hg).2)
  · rw [MayWait_zero]; iintro -; iempintro

theorem mayWait_bar (c : Dev nD) : (levAts L lv : sProp 𝕄) ⊢ MayWait (c : Thread nD τ) (.reg barS) () (OS1 c) :=
  MayOwe.of_cut (L := L) (lev := lv) 1 (fun p hp => by rw [Finset.mem_singleton.mp hp, L_tc]; exact Finset.mem_singleton_self _)
    (fun g u hg => mem_L (OS1_pos hg).1)
    (fun p hp => by rw [Finset.mem_singleton.mp hp]; exact le_refl 1)
    (fun g u hg => by rw [(OS1_pos hg).2]; decide)

end Cert.KernelIdeal.Moe

end
-- ==== Proof.ISlots.lean ====
/-
The slots of the two scratch buffers, and the rules for signals, copies and waits at this protocol's cells.
-/
module

public import proofs.«01_k».proof.Proof.IProto
public import Idealize.ShloMosaic.Lib.Pipeline.ValueKit.Geometry

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

abbrev 𝒱₀ : Variants := Variants.none

/-! ## The slots as element sets -/

theorem mem_q (j : ℕ) (hj : j < 4) (i : S4x4x256x512.Idx) : i ∈ (qM j hj).view.set ↔ (i 0).val = j := by
  rw [show (qM j hj).view.set = (Rect.unit (s := S4x4x256x512) ![j, 0, 0, 0] S1x4x256x512.size (inbQ j hj)).set from
    (View.set_reshape _ _).trans (View.set_slice_whole _ _), Rect.mem_set_unit]
  constructor
  · intro h; have := h 0; have h1 : j ≤ (i 0).val := this.1; have h2 : (i 0).val < j + 1 := this.2; omega
  · intro h a; fin_cases a
    · exact ⟨h.symm.le, (show (i 0).val < j + 1 by omega)⟩
    · exact ⟨Nat.zero_le _, (show (i 1).val < 0 + 4 from (Nat.zero_add 4).symm ▸ (i 1).isLt)⟩
    · exact ⟨Nat.zero_le _, (show (i 2).val < 0 + 256 from (Nat.zero_add 256).symm ▸ (i 2).isLt)⟩
    · exact ⟨Nat.zero_le _, (show (i 3).val < 0 + 512 from (Nat.zero_add 512).symm ▸ (i 3).isLt)⟩
theorem mem_s (j : ℕ) (hj : j < 4) (i : S4x4x512.Idx) : i ∈ (sM j hj).view.set ↔ (i 0).val = j := by
  rw [show (sM j hj).view.set = (Rect.unit (s := S4x4x512) ![j, 0, 0] S1x4x512.size (inbS j hj)).set from
    (View.set_reshape _ _).trans (View.set_slice_whole _ _), Rect.mem_set_unit]
  constructor
  · intro h; have := h 0; have h1 : j ≤ (i 0).val := this.1; have h2 : (i 0).val < j + 1 := this.2; omega
  · intro h a; fin_cases a
    · exact ⟨h.symm.le, (show (i 0).val < j + 1 by omega)⟩
    · exact ⟨Nat.zero_le _, (show (i 1).val < 0 + 4 from (Nat.zero_add 4).symm ▸ (i 1).isLt)⟩
    · exact ⟨Nat.zero_le _, (show (i 2).val < 0 + 512 from (Nat.zero_add 512).symm ▸ (i 2).isLt)⟩

def qSet (b : Fin 4) : Finset S4x4x256x512.Idx := (qM b.val b.isLt).view.set
def sSet (b : Fin 4) : Finset S4x4x512.Idx := (sM b.val b.isLt).view.set
theorem qSet_disj (b b' : Fin 4) (h : b ≠ b') : Disjoint (qSet b) (qSet b') :=
  Finset.disjoint_left.mpr fun i hi hi' => h (Fin.ext (((mem_q _ _ i).mp hi).symm.trans ((mem_q _ _ i).mp hi')))
theorem sSet_disj (b b' : Fin 4) (h : b ≠ b') : Disjoint (sSet b) (sSet b') :=
  Finset.disjoint_left.mpr fun i hi hi' => h (Fin.ext (((mem_s _ _ i).mp hi).symm.trans ((mem_s _ _ i).mp hi')))
theorem qSet_cover : Finset.univ.biUnion qSet = Finset.univ :=
  Finset.eq_univ_iff_forall.mpr fun i => Finset.mem_biUnion.mpr ⟨(i 0 : Fin 4), Finset.mem_univ _, (mem_q _ _ i).mpr rfl⟩
theorem sSet_cover : Finset.univ.biUnion sSet = Finset.univ :=
  Finset.eq_univ_iff_forall.mpr fun i => Finset.mem_biUnion.mpr ⟨(i 0 : Fin 4), Finset.mem_univ _, (mem_s _ _ i).mpr rfl⟩

theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ

/-- A scratch buffer held whole is its four slots; -/
theorem q_split (c : Dev nD) (f : QC F) : ((c : Thread nD τ).loc cc0_scratch0 ↦{fullShare} f : sProp 𝕄)
    = iprop(qPts 0 h04 c fullShare f ∗ qPts 1 h14 c fullShare f ∗ qPts 2 h24 c fullShare f ∗ qPts 3 h34 c fullShare f) := by
  rw [Ring.pointsTo_blocks (ℓ := (c : Thread nD τ).loc cc0_scratch0) qSet qSet_disj qSet_cover f, bigSep_four]; rfl
theorem s_split (c : Dev nD) (f : SC F) : ((c : Thread nD τ).loc cc0_scratch1 ↦{fullShare} f : sProp 𝕄)
    = iprop(sPts 0 h04 c fullShare f ∗ sPts 1 h14 c fullShare f ∗ sPts 2 h24 c fullShare f ∗ sPts 3 h34 c fullShare f) := by
  rw [Ring.pointsTo_blocks (ℓ := (c : Thread nD τ).loc cc0_scratch1) sSet sSet_disj sSet_cover f, bigSep_four]; rfl
/-- and four slots at contents of their own are the buffer at some contents. -/
theorem q_join (c : Dev nD) (f0 f1 f2 f3 : QC F) :
    iprop(qPts 0 h04 c fullShare f0 ∗ qPts 1 h14 c fullShare f1 ∗ qPts 2 h24 c fullShare f2 ∗ qPts 3 h34 c fullShare f3)
      ⊢ (iprop(∃ g, (c : Thread nD τ).loc cc0_scratch0 ↦{fullShare} g) : sProp 𝕄) := by
  have h := Ring.pointsTo_blocks_join (Ix := Unit) (Name := ℕ) (U := UU) (Lvl := ℕ) (q := fullShare) (ℓ := (c : Thread nD τ).loc cc0_scratch0) qSet qSet_disj qSet_cover ![f0, f1, f2, f3] f0
  rw [bigSep_four] at h; exact h
theorem s_join (c : Dev nD) (f0 f1 f2 f3 : SC F) :
    iprop(sPts 0 h04 c fullShare f0 ∗ sPts 1 h14 c fullShare f1 ∗ sPts 2 h24 c fullShare f2 ∗ sPts 3 h34 c fullShare f3)
      ⊢ (iprop(∃ g, (c : Thread nD τ).loc cc0_scratch1 ↦{fullShare} g) : sProp 𝕄) := by
  have h := Ring.pointsTo_blocks_join (Ix := Unit) (Name := ℕ) (U := UU) (Lvl := ℕ) (q := fullShare) (ℓ := (c : Thread nD τ).loc cc0_scratch1) sSet sSet_disj sSet_cover ![f0, f1, f2, f3] f0
  rw [bigSep_four] at h; exact h

/-- Slot 0 is its three thirds. -/
theorem q_thirds (c : Dev nD) (f : QC F) : (qPts 0 h04 c fullShare f : sProp 𝕄)
    ⊣⊢ iprop(qPts 0 h04 c (Ring.shares3 fullShare 0) f ∗ qPts 0 h04 c (Ring.shares3 fullShare 1) f ∗ qPts 0 h04 c (Ring.shares3 fullShare 2) f) :=
  Ring.pointsTo_thirds (ℓ := (c : Thread nD τ).loc cc0_scratch0) (I := (qM 0 h04).view.set) fullShare f
theorem s_thirds (c : Dev nD) (f : SC F) : (sPts 0 h04 c fullShare f : sProp 𝕄)
    ⊣⊢ iprop(sPts 0 h04 c (Ring.shares3 fullShare 0) f ∗ sPts 0 h04 c (Ring.shares3 fullShare 1) f ∗ sPts 0 h04 c (Ring.shares3 fullShare 2) f) :=
  Ring.pointsTo_thirds (ℓ := (c : Thread nD τ).loc cc0_scratch1) (I := (sM 0 h04).view.set) fullShare f

/-! ## Contents -/

theorem qM_emb (j : ℕ) (hj : j < 4) (x : S4x256x512.Idx) (a : Fin 4) (ha : a ≠ 0) :
    (((qM j hj).view.emb x : S4x4x256x512.Idx) a).val = (((qM 0 h04).view.emb x : S4x4x256x512.Idx) a).val := by
  show ((Rect.unit (s := S4x4x256x512) ![j, 0, 0, 0] S1x4x256x512.size (inbQ j hj)).emb _ a : ℕ)
    = ((Rect.unit (s := S4x4x256x512) ![0, 0, 0, 0] S1x4x256x512.size (inbQ 0 h04)).emb _ a : ℕ)
  rw [ValueKit.rect_emb_unit_val, ValueKit.rect_emb_unit_val]
  congr 1
  fin_cases a
  · exact absurd rfl ha
  · rfl
  · rfl
  · rfl
theorem sM_emb (j : ℕ) (hj : j < 4) (x : S4x512.Idx) (a : Fin 3) (ha : a ≠ 0) :
    (((sM j hj).view.emb x : S4x4x512.Idx) a).val = (((sM 0 h04).view.emb x : S4x4x512.Idx) a).val := by
  show ((Rect.unit (s := S4x4x512) ![j, 0, 0] S1x4x512.size (inbS j hj)).emb _ a : ℕ)
    = ((Rect.unit (s := S4x4x512) ![0, 0, 0] S1x4x512.size (inbS 0 h04)).emb _ a : ℕ)
  rw [ValueKit.rect_emb_unit_val, ValueKit.rect_emb_unit_val]
  congr 1
  fin_cases a
  · exact absurd rfl ha
  · rfl
  · rfl

theorem qAll_congr (d : Dev nD) (i i' : S4x4x256x512.Idx) (h : ∀ a : Fin 4, a ≠ 0 → (i a).val = (i' a).val) : qAll m d i = qAll m d i' := by
  show k0_pay3 (F := F) (ein m d) (ix4 0 (i 1) (i 2) (i 3)) = k0_pay3 (F := F) (ein m d) (ix4 0 (i' 1) (i' 2) (i' 3))
  rw [show (i 1 : Fin 4) = i' 1 from Fin.ext (h 1 (by decide)), show (i 2 : Fin 256) = i' 2 from Fin.ext (h 2 (by decide)),
    show (i 3 : Fin 512) = i' 3 from Fin.ext (h 3 (by decide))]
theorem sAll_congr (d : Dev nD) (i i' : S4x4x512.Idx) (h : ∀ a : Fin 3, a ≠ 0 → (i a).val = (i' a).val) : sAll m d i = sAll m d i' := by
  show k0_pay4 (F := F) (ein m d) (ix3 0 (i 1) (i 2)) = k0_pay4 (F := F) (ein m d) (ix3 0 (i' 1) (i' 2))
  rw [show (i 1 : Fin 4) = i' 1 from Fin.ext (h 1 (by decide)), show (i 2 : Fin 512) = i' 2 from Fin.ext (h 2 (by decide))]

/-- What a copy of slot 0 at `qAll m d` leaves in slot `j` is `qAll m d` there. -/
theorem q_land (j : ℕ) (hj : j < 4) (d : Dev nD) (n : Dev nD) (fd : QC F) :
    ((n : Thread nD τ).loc cc0_scratch0 ↦[(qM j hj).view.set]{fullShare} ((qM j hj).view.write (Elt F) fd ((qM 0 h04).view.read (Elt F) (qAll m d)) Finset.univ) : sProp 𝕄)
      = qPts j hj n fullShare (qAll m d) := by
  unfold qPts
  refine pointsTo_congr (fun i hi => ?_)
  obtain ⟨x, -, rfl⟩ := Finset.mem_map.mp hi
  refine (View.write_emb_of_mem (v := (qM j hj).view) fd _ (Finset.mem_univ x)).trans ?_
  exact qAll_congr m d _ _ fun a ha => (qM_emb j hj x a ha).symm
theorem s_land (j : ℕ) (hj : j < 4) (d : Dev nD) (n : Dev nD) (fd : SC F) :
    ((n : Thread nD τ).loc cc0_scratch1 ↦[(sM j hj).view.set]{fullShare} ((sM j hj).view.write (Elt F) fd ((sM 0 h04).view.read (Elt F) (sAll m d)) Finset.univ) : sProp 𝕄)
      = sPts j hj n fullShare (sAll m d) := by
  unfold sPts
  refine pointsTo_congr (fun i hi => ?_)
  obtain ⟨x, -, rfl⟩ := Finset.mem_map.mp hi
  refine (View.write_emb_of_mem (v := (sM j hj).view) fd _ (Finset.mem_univ x)).trans ?_
  exact sAll_congr m d _ _ fun a ha => (sM_emb j hj x a ha).symm

abbrev rQ0 : Rect S4x4x256x512 := Rect.unit (s := S4x4x256x512) ![0, 0, 0, 0] S1x4x256x512.size inb_S4x4x256x512_S1x4x256x512_0_0_0_0
abbrev rS0 : Rect S4x4x512 := Rect.unit (s := S4x4x512) ![0, 0, 0] S1x4x512.size inb_S4x4x512_S1x4x512_0_0_0

theorem setQ0 : ((Memref.whole cc0_scratch0).access rQ0).set = (qM 0 h04).view.set := (View.set_reshape _ _).symm
theorem setS0 : ((Memref.whole cc0_scratch1).access rS0).set = (sM 0 h04).view.set := (View.set_reshape _ _).symm

/-- Storing the quantised weights in slot 0 leaves it at `qAll`; -/
theorem q_store (c : Dev nD) (fd : QC F) :
    ((c : Thread nD τ).loc cc0_scratch0 ↦[(qM 0 h04).view.set]{fullShare} (((Memref.whole cc0_scratch0).access rQ0).write (Elt F) fd (k0_pay3 (F := F) (ein m c)) Finset.univ) : sProp 𝕄)
      = qPts 0 h04 c fullShare (qAll m c) := by
  unfold qPts
  refine pointsTo_congr (fun i hi => ?_)
  rw [← setQ0] at hi
  obtain ⟨x, -, rfl⟩ := Finset.mem_map.mp hi
  refine (View.write_emb_of_mem (v := (Memref.whole cc0_scratch0).access rQ0) fd _ (Finset.mem_univ x)).trans ?_
  show k0_pay3 (F := F) (ein m c) x = k0_pay3 (F := F) (ein m c) (ix4 0 (rQ0.emb x 1) (rQ0.emb x 2) (rQ0.emb x 3))
  congr 1
  funext a; apply Fin.ext; fin_cases a
  · exact Nat.lt_one_iff.mp (show (x 0).val < 1 from (x 0).isLt)
  · exact ((ValueKit.rect_emb_unit_val _ _ _ x 1).trans (Nat.zero_add _)).symm
  · exact ((ValueKit.rect_emb_unit_val _ _ _ x 2).trans (Nat.zero_add _)).symm
  · exact ((ValueKit.rect_emb_unit_val _ _ _ x 3).trans (Nat.zero_add _)).symm
/-- storing the scales there, at `sAll`. -/
theorem s_store (c : Dev nD) (fd : SC F) :
    ((c : Thread nD τ).loc cc0_scratch1 ↦[(sM 0 h04).view.set]{fullShare} (((Memref.whole cc0_scratch1).access rS0).write (Elt F) fd (k0_pay4 (F := F) (ein m c)) Finset.univ) : sProp 𝕄)
      = sPts 0 h04 c fullShare (sAll m c) := by
  unfold sPts
  refine pointsTo_congr (fun i hi => ?_)
  rw [← setS0] at hi
  obtain ⟨x, -, rfl⟩ := Finset.mem_map.mp hi
  refine (View.write_emb_of_mem (v := (Memref.whole cc0_scratch1).access rS0) fd _ (Finset.mem_univ x)).trans ?_
  show k0_pay4 (F := F) (ein m c) x = k0_pay4 (F := F) (ein m c) (ix3 0 (rS0.emb x 1) (rS0.emb x 2))
  congr 1
  funext a; apply Fin.ext; fin_cases a
  · exact Nat.lt_one_iff.mp (show (x 0).val < 1 from (x 0).isLt)
  · exact ((ValueKit.rect_emb_unit_val _ _ _ x 1).trans (Nat.zero_add _)).symm
  · exact ((ValueKit.rect_emb_unit_val _ _ _ x 2).trans (Nat.zero_add _)).symm

/-- A load of expert `e` from slot `j` reads within the slot; -/
theorem q_sub (j e : ℕ) (hj : j < 4) (h : ∀ a, (![j, e, 0, 0] : Fin 4 → Nat) a + S1x1x256x512.size a ≤ S4x4x256x512.size a) :
    (Memref.whole cc0_scratch0).view.setOn (Rect.unit (s := S4x4x256x512) ![j, e, 0, 0] S1x1x256x512.size h).toLoadRect.set ⊆ (qM j hj).view.set := by
  intro i hi
  obtain ⟨x, hx, rfl⟩ := Finset.mem_map.mp hi
  rw [mem_q]
  have := Rect.mem_set_unit.mp hx 0
  have h1 : j ≤ (x 0).val := this.1
  have h2 : (x 0).val < j + 1 := this.2
  show (x 0).val = j
  omega
/-- a load of the whole slot of scales within that slot, -/
theorem s_sub (j : ℕ) (hj : j < 4) (h : ∀ a, (![j, 0, 0] : Fin 3 → Nat) a + S1x4x512.size a ≤ S4x4x512.size a) :
    (Memref.whole cc0_scratch1).view.setOn (Rect.unit (s := S4x4x512) ![j, 0, 0] S1x4x512.size h).toLoadRect.set ⊆ (sM j hj).view.set := by
  intro i hi
  obtain ⟨x, hx, rfl⟩ := Finset.mem_map.mp hi
  rw [mem_s]
  have := Rect.mem_set_unit.mp hx 0
  have h1 : j ≤ (x 0).val := this.1
  have h2 : (x 0).val < j + 1 := this.2
  show (x 0).val = j
  omega
/-- and of the whole slot 0 of weights within it. -/
theorem q_sub0 : (Memref.whole cc0_scratch0).view.setOn rQ0.toLoadRect.set ⊆ (qM 0 h04).view.set := by
  intro i hi
  obtain ⟨x, hx, rfl⟩ := Finset.mem_map.mp hi
  rw [mem_q]
  have := Rect.mem_set_unit.mp hx 0
  have h2 : (x 0).val < 0 + 1 := this.2
  show (x 0).val = 0
  omega

/-! ## The invariants and the rules at this protocol's cells -/

variable (K : Dev nD × Fin 13 → ℕ)

def records : sProp 𝕄 :=
  iprop((bigSep Finset.univ fun ck : Dev nD × Fin 13 => cellInv ER (moeRd m) (K ck) (kcell ck))
    ∗ bigSep Finset.univ fun ck : Dev nD × Fin 13 => reached ER (kcell ck) 0)
instance records_persistent : BI.Persistent (records (F := F) m K) := by unfold records; infer_instance

theorem inv_at (ck : Dev nD × Fin 13) : records (F := F) m K ⊢ cellInv ER (moeRd m) (K ck) (kcell ck) := by
  unfold records
  have h : (bigSep Finset.univ fun ck : Dev nD × Fin 13 => (cellInv ER (moeRd m) (K ck) (kcell ck) : sProp 𝕄)) ⊢ cellInv ER (moeRd m) (K ck) (kcell ck) :=
    bigSep_elim (Finset.mem_univ ck)
  iintro ⟨HI, -⟩
  iapply h; iexact HI
theorem reached_at (ck : Dev nD × Fin 13) : records (F := F) m K ⊢ reached ER (kcell ck) 0 := by
  unfold records
  have h : (bigSep Finset.univ fun ck : Dev nD × Fin 13 => (reached ER (kcell ck) 0 : sProp 𝕄)) ⊢ reached ER (kcell ck) 0 :=
    bigSep_elim (Finset.mem_univ ck)
  iintro ⟨-, HR⟩
  iapply h; iexact HR

/-- The number of transfer semaphore `n` among the thirteen. -/
def kidx (n : ℕ) (h5 : 5 ≤ n) (hn : n < 17) : Fin 13 := ⟨n - 4, by omega⟩
theorem kcell_dma (n : ℕ) (h5 : 5 ≤ n) (hn : n < 17) (c : Dev nD) : kcell (c, kidx n h5 hn) = dmaCell n hn c := by
  refine Prod.ext rfl ?_
  show (if n - 4 = 0 then SemLoc.reg barS else SemLoc.dma ⟨n - 4 + 4, _⟩) = SemLoc.dma ⟨n, hn⟩
  rw [if_neg (by omega)]
  exact congrArg SemLoc.dma (Fin.ext (by show n - 4 + 4 = n; omega))
theorem inv_dma (n : ℕ) (h5 : 5 ≤ n) (hn : n < 17) (c : Dev nD) : records (F := F) m K ⊢ cellInv ER (moeRd m) (K (c, kidx n h5 hn)) (dmaCell n hn c) := by
  have := inv_at m K (c, kidx n h5 hn); rwa [kcell_dma] at this
theorem reached_dma (n : ℕ) (h5 : 5 ≤ n) (hn : n < 17) (c : Dev nD) : records (F := F) m K ⊢ reached ER (dmaCell n hn c) 0 := by
  have := reached_at m K (c, kidx n h5 hn); rwa [kcell_dma] at this

/-- What core `c` owes, its record of past waits left open. -/
def ow (c : Dev nD) (O : CellTallies nD τ sig Unit) : sProp 𝕄 := iprop(∃ W, owes (c : Thread nD τ) O W)

theorem amount_q (n : ℕ) (hn : n < 17) (h : n < 11) (c : Dev nD) : (moeRd (F := F) m).amount (dmaCell n hn c) 0 0 = NQ := if_pos h
theorem amount_s (n : ℕ) (hn : n < 17) (h : ¬ n < 11) (c : Dev nD) : (moeRd (F := F) m).amount (dmaCell n hn c) 0 0 = NS := if_neg h

/-- Sending slot 0 of the weights to slot `j` of device `n` (the destination slot held by the sender). -/
theorem send_q (c n n' : Dev nD) (hn : n = n') (j : ℕ) (hj : j < 4) (i : Fin 3) (a b : ℕ) (ha : a < 17) (hb : b < 17) (ha5 : 5 ≤ a) (hb5 : 5 ≤ b) (ha' : a < 11) (hb' : b < 11)
    (hp₁ : dmaPay (F := F) m a c = qThird m i c) (hp₂ : dmaPay (F := F) m b n' = qPts j hj n' fullShare (qAll m c))
    {hsc : (qM j hj : Memref sig (Dev.tc n : Thread nD τ).2.kind .vmem S4x256x512 .i8).view.ref.isScScratch = false}
    {hsrc : (qM 0 h04).view.WordExact} {hdst : (qM j hj : Memref sig (Dev.tc n : Thread nD τ).2.kind .vmem S4x256x512 .i8).view.WordExact}
    {hsem : DmaTarget.Typed .vmem (.dma (⟨b, hb⟩ : DmaSem sig)) (.remote (Dev.tc n : Thread nD τ) (qM j hj) (.dma (⟨a, ha⟩ : DmaSem sig)) hsc)}
    {α : Type} {Q : α → sProp 𝕄} {k : PUnit → Prog (TpuEff nD τ sig (Elt F) Λ₀ .tc) α} (O : CellTallies nD τ sig Unit) (fd : QC F) :
    iprop(records m K ∗ qThird m i c ∗ qPts j hj n' fullShare fd ∗ ow c (O + tallyAt (dmaCell b hb n') () NQ)
        ∗ dutyTok ER (dmaCell a ha c) 0 (0 : Fin 3) ∗ dutyTok ER (dmaCell b hb n') 0 (0 : Fin 3))
      ⊢ iprop(((cred (tallyAt (dmaCell a ha c) () NQ) ∗ ow c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (qM 0 h04) (.remote (Dev.tc n : Thread nD τ) (qM j hj) (.dma (⟨a, ha⟩ : DmaSem sig)) hsc) (.dma (⟨b, hb⟩ : DmaSem sig)) hsrc hdst hsem) k) Q) := by
  subst hn
  unfold ow
  iintro ⟨#HR, Hs, Hd, ⟨%W, HO⟩, Ht₁, Ht₂⟩ Hk
  iapply (Rounds.wp_send_pointsTo 𝒱₀ ER (moeRd m) (c : Thread nD τ) none (κ₁ := K (c, kidx a ha5 ha)) (κ₂ := K (n, kidx b hb5 hb))
    (c' := (n : Thread nD τ)) (src := qM 0 h04) (dst := qM j hj) (sS := .dma (⟨a, ha⟩ : DmaSem sig)) (sem := .dma (⟨b, hb⟩ : DmaSem sig))
    (r₁ := 0) (r₂ := 0) (d₁ := 0) (d₂ := 0) (q := Ring.shares3 fullShare i) (fs := qAll m c) (fd := fd)
    (by rw [duties_dma m c _ ha5]; exact Finset.mem_singleton_self _) (by rw [duties_dma m n _ hb5]; exact Finset.mem_singleton_self _)
    () () NQ rfl (amount_q m a ha ha' c) (amount_q m b hb hb' n) O rfl (W := W)
    (Entails.of_eq hp₁.symm) (Entails.of_eq ((q_land m j hj c n fd).trans hp₂.symm))) $$ [Hs Hd HO Ht₁ Ht₂]
  · isplitr; · iapply (inv_dma m K a ha5 ha c); iexact HR
    isplitr; · iapply (inv_dma m K b hb5 hb n); iexact HR
    isplitl [Hs]; · unfold qThird qPts; iexact Hs
    isplitl [Hd]; · unfold qPts; iexact Hd
    isplitl [HO]; · iexact HO
    isplitl [Ht₁]; · iexact Ht₁
    isplitr; · iapply (reached_dma m K a ha5 ha c); iexact HR
    isplitl [Ht₂]; · iexact Ht₂
    iapply (reached_dma m K b hb5 hb n); iexact HR
  iintro ⟨Hc, HO⟩
  iapply Hk
  isplitl [Hc]; · iexact Hc
  iexists W; iexact HO

/-- Sending slot 0 of the scales likewise. -/
theorem send_s (c n n' : Dev nD) (hn : n = n') (j : ℕ) (hj : j < 4) (i : Fin 3) (a b : ℕ) (ha : a < 17) (hb : b < 17) (ha5 : 5 ≤ a) (hb5 : 5 ≤ b) (ha' : ¬ a < 11) (hb' : ¬ b < 11)
    (hp₁ : dmaPay (F := F) m a c = sThird m i c) (hp₂ : dmaPay (F := F) m b n' = sPts j hj n' fullShare (sAll m c))
    {hsc : (sM j hj : Memref sig (Dev.tc n : Thread nD τ).2.kind .vmem S4x512 .f32).view.ref.isScScratch = false}
    {hsrc : (sM 0 h04).view.WordExact} {hdst : (sM j hj : Memref sig (Dev.tc n : Thread nD τ).2.kind .vmem S4x512 .f32).view.WordExact}
    {hsem : DmaTarget.Typed .vmem (.dma (⟨b, hb⟩ : DmaSem sig)) (.remote (Dev.tc n : Thread nD τ) (sM j hj) (.dma (⟨a, ha⟩ : DmaSem sig)) hsc)}
    {α : Type} {Q : α → sProp 𝕄} {k : PUnit → Prog (TpuEff nD τ sig (Elt F) Λ₀ .tc) α} (O : CellTallies nD τ sig Unit) (fd : SC F) :
    iprop(records m K ∗ sThird m i c ∗ sPts j hj n' fullShare fd ∗ ow c (O + tallyAt (dmaCell b hb n') () NS)
        ∗ dutyTok ER (dmaCell a ha c) 0 (0 : Fin 3) ∗ dutyTok ER (dmaCell b hb n') 0 (0 : Fin 3))
      ⊢ iprop(((cred (tallyAt (dmaCell a ha c) () NS) ∗ ow c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sM 0 h04) (.remote (Dev.tc n : Thread nD τ) (sM j hj) (.dma (⟨a, ha⟩ : DmaSem sig)) hsc) (.dma (⟨b, hb⟩ : DmaSem sig)) hsrc hdst hsem) k) Q) := by
  subst hn
  unfold ow
  iintro ⟨#HR, Hs, Hd, ⟨%W, HO⟩, Ht₁, Ht₂⟩ Hk
  iapply (Rounds.wp_send_pointsTo 𝒱₀ ER (moeRd m) (c : Thread nD τ) none (κ₁ := K (c, kidx a ha5 ha)) (κ₂ := K (n, kidx b hb5 hb))
    (c' := (n : Thread nD τ)) (src := sM 0 h04) (dst := sM j hj) (sS := .dma (⟨a, ha⟩ : DmaSem sig)) (sem := .dma (⟨b, hb⟩ : DmaSem sig))
    (r₁ := 0) (r₂ := 0) (d₁ := 0) (d₂ := 0) (q := Ring.shares3 fullShare i) (fs := sAll m c) (fd := fd)
    (by rw [duties_dma m c _ ha5]; exact Finset.mem_singleton_self _) (by rw [duties_dma m n _ hb5]; exact Finset.mem_singleton_self _)
    () () NS rfl (amount_s m a ha ha' c) (amount_s m b hb hb' n) O rfl (W := W)
    (Entails.of_eq hp₁.symm) (Entails.of_eq ((s_land m j hj c n fd).trans hp₂.symm))) $$ [Hs Hd HO Ht₁ Ht₂]
  · isplitr; · iapply (inv_dma m K a ha5 ha c); iexact HR
    isplitr; · iapply (inv_dma m K b hb5 hb n); iexact HR
    isplitl [Hs]; · unfold sThird sPts; iexact Hs
    isplitl [Hd]; · unfold sPts; iexact Hd
    isplitl [HO]; · iexact HO
    isplitl [Ht₁]; · iexact Ht₁
    isplitr; · iapply (reached_dma m K a ha5 ha c); iexact HR
    isplitl [Ht₂]; · iexact Ht₂
    iapply (reached_dma m K b hb5 hb n); iexact HR
  iintro ⟨Hc, HO⟩
  iapply Hk
  isplitl [Hc]; · iexact Hc
  iexists W; iexact HO

/-- Waiting on transfer cell `a` for its one duty, owing nothing: its payload, and the closed cell's counter at zero. -/
theorem wait_dma (c : Dev nD) (a : ℕ) (ha : a < 17) (ha5 : 5 ≤ a) {s : Shape} {e : EltTy} (N : ℕ) (hN : (moeRd (F := F) m).amount (dmaCell a ha c) 0 0 = N)
    {sp sp' : Space} {src : Memref sig .tc sp s e} {dst : Memref sig .tc sp' s e} (hd : dst.view.dmaCredit = N)
    {hsrc : src.view.WordExact} {hdst : dst.view.WordExact}
    {α : Type} {Q : α → sProp 𝕄} {k : PUnit → Prog (TpuEff nD τ sig (Elt F) Λ₀ .tc) α} :
    iprop(records m K ∗ cred (tallyAt (dmaCell a ha c) () N) ∗ ow c 0 ∗ atPos ER (dmaCell a ha c) 0 ∅ 0)
      ⊢ iprop(((ow c 0 ∗ semVal (dmaCell a ha c) 0 ∗ dmaPay m a c) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (⟨a, ha⟩ : DmaSem sig) src dst hsrc hdst) k) Q) := by
  unfold ow
  iintro ⟨#HR, Hc, ⟨%W, HO⟩, Hat⟩ Hk
  ihave #HI := (inv_dma m K a ha5 ha c) $$ HR
  iapply (Rounds.wp_wait_rest_token 𝒱₀ ER (moeRd m) (c : Thread nD τ) none (κ := K (c, kidx a ha5 ha))
      (wpE_waitDma2_eq 𝒱₀ (c : Thread nD τ) none Set.univ) (Set.mem_univ _) () (O := 0) (W := W) (R := 0) (m := 0) (T := ∅)
      (by rw [Nat.zero_add, hd]; unfold Schedule.expect Schedule.amountOf; rw [duties_dma m c _ ha5, Finset.sum_singleton]; exact hN.symm)) $$ [Hc HO Hat]
  · isplitr; · iexact HI
    isplitl [Hc]; · rw [hd]; iexact Hc
    isplitl [HO]; · iexact HO
    isplitr; · rw [MayWait_zero]; iempintro
    iexact Hat
  iintro ⟨HO, Hat, -, Hpay⟩
  imod (Rounds.cell_close ER (moeRd m) (Set.mem_univ (K (c, kidx a ha5 ha))) (fun h => h) (R := 0 + 1) (duties_later m (dmaCell a ha c))) $$ [Hat] with Hz
  · isplitr; · iexact HI
    iexact Hat
  iapply Hk
  isplitl [HO]; · iexists _; iexact HO
  isplitl [Hz]; · iexact Hz
  iapply (Entails.of_eq (show bigSep ((moeRd (F := F) m).duties (dmaCell a ha c) 0 \ ∅) (fun d => (moeRd (F := F) m).payload (dmaCell a ha c) 0 d) = dmaPay m a c by
    rw [Finset.sdiff_empty, duties_dma m c _ ha5, bigSep_singleton]; rfl))
  iexact Hpay

theorem payload_bar (c : Dev nD) (d : Fin 3) : (moeRd (F := F) m).payload ((c : Thread nD τ), .reg barS) 0 d = barPay d c := rfl

/-- Signalling device `n`'s barrier, paying its duty `d`. -/
theorem signal_bar (c n n' : Dev nD) (hn : n = n') (d : Fin 3) {α : Type} {Q : α → sProp 𝕄} {k : PUnit → Prog (TpuEff nD τ sig (Elt F) Λ₀ .tc) α} (O : CellTallies nD τ sig Unit) {u : ℕ} (hu : u = 1) :
    iprop(records m K ∗ ow c (O + tallyAt (barCell n') () 1) ∗ dutyTok ER (barCell n') 0 d ∗ barPay d n')
      ⊢ iprop((ow c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS u) k) Q) := by
  subst hn; subst hu
  unfold ow
  iintro ⟨#HR, ⟨%W, HO⟩, Ht, Hp⟩ Hk
  iapply (Rounds.wp_signal 𝒱₀ ER (moeRd m) (c : Thread nD τ) none (dst := (n : Thread nD τ)) (κ := K (n, 0))
      (d := d) (by rw [duties_bar]; exact Finset.mem_univ _) (amount_bar m n d) () O rfl) $$ [HO Ht Hp]
  · isplitr; · iapply (inv_at m K (n, 0)); iexact HR
    isplitl [HO]; · iexact HO
    isplitl [Ht]; · iexact Ht
    isplitl [Hp]; · rw [payload_bar]; iexact Hp
    iapply (reached_at m K (n, 0)); iexact HR
  iintro HO
  iapply Hk
  iexists W; iexact HO

/-- Waiting on the device's own barrier for its three duties, still owing its six copies. -/
theorem wait_bar (c : Dev nD) {α : Type} {Q : α → sProp 𝕄} {k : PUnit → Prog (TpuEff nD τ sig (Elt F) Λ₀ .tc) α} {u : ℕ} (hu : u = 3) :
    iprop(records m K ∗ levAts L lv ∗ cred (tallyAt (barCell c) () 3) ∗ ow c (OS1 c) ∗ atPos ER (barCell c) 0 ∅ 0)
      ⊢ iprop(((ow c (OS1 c) ∗ semVal (barCell c) 0 ∗ slotPay 1 h14 (sh 1 c) ∗ slotPay 2 h24 (sh 2 c) ∗ slotPay 3 h34 (sh 3 c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS u) k) Q) := by
  subst hu
  unfold ow
  iintro ⟨#HR, #Hlev, Hc, ⟨%W, HO⟩, Hat⟩ Hk
  ihave #HI := (inv_at m K (c, 0)) $$ HR
  iapply (Rounds.wp_wait_rest_token 𝒱₀ ER (moeRd m) (c : Thread nD τ) none (κ := K (c, 0))
      (wpE_semWait_eq 𝒱₀ (c : Thread nD τ) none Set.univ) (Set.mem_univ _) () (O := OS1 c) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  imod (Rounds.cell_close ER (moeRd m) (Set.mem_univ (K (c, 0))) (fun h => h) (R := 0 + 1) (duties_later m (barCell c))) $$ [Hat] with Hz
  · isplitr; · iexact HI
    iexact Hat
  iapply Hk
  isplitl [HO]; · iexists _; iexact HO
  isplitl [Hz]; · iexact Hz
  iapply (Entails.of_eq (rest_bar m c)); iexact Hpay

end Cert.KernelIdeal.Moe

end
-- ==== Proof.IBody.lean ====
/-
The kernel's body, part by part: what each part takes, what it hands on, and the values it computes.
-/
module

public import proofs.«01_k».proof.Proof.ISlots

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)
variable (K : Dev nD × Fin 13 → ℕ)

/-! ## The values the parts hand on -/

/-- The device's number as the program computes it, -/
abbrev V2 (c : Dev nD) : BitVec 32 := Scalar.remsi (Scalar.divsi (Dev.word c) 1#32) 4#32
/-- the number four, by way of the program's guard against zero, -/
abbrev four : BitVec 32 := Scalar.select (Scalar.cmpi .eq 4#32 0#32) 1#32 4#32
/-- a remainder brought to the sign of its divisor, -/
abbrev fixup (a n : BitVec 32) : BitVec 32 :=
  Scalar.select (Scalar.andi (Scalar.xori (Scalar.cmpi .slt (Scalar.remsi a n) 0#32) (Scalar.cmpi .slt n 0#32)) (Scalar.cmpi .ne (Scalar.remsi a n) 0#32))
    (Scalar.addi (Scalar.remsi a n) n) (Scalar.remsi a n)
/-- and the number of the device `k` places back. -/
abbrev mw (v2 k : BitVec 32) : BitVec 32 := fixup (Scalar.subi v2 k) four

abbrev colI : IVec S1024x16 32 := iota .tc S1024x16 32 [1] iota_S1024x16_d1_w32

/-- A column of the routing, -/
abbrev rdI (j : ℕ) (h : ∀ a, (![0, j] : Fin 2 → Nat) a + S1024x1.size a ≤ S1024x2.size a) (I : (cc0_stg2_0 : Ref sig .tc).ty.Contents (Elt F)) : Vec F S1024x1 .i32 :=
  (Memref.whole cc0_stg2_0).view.readAt (Elt F) (Rect.unit (s := S1024x2) ![0, j] S1024x1.size h).toLoadRect I
/-- one of the device's own experts, -/
abbrev rdE (j : ℕ) (h : ∀ a, (![j, 0, 0] : Fin 3 → Nat) a + S1x256x512.size a ≤ S4x256x512.size a) (E : (cc0_stg3_0 : Ref sig .tc).ty.Contents (Elt F)) : Vec F S1x256x512 .f32 :=
  (Memref.whole cc0_stg3_0).view.readAt (Elt F) (Rect.unit (s := S4x256x512) ![j, 0, 0] S1x256x512.size h).toLoadRect E
/-- one expert out of a slot, -/
abbrev rdQ (j e : ℕ) (h : ∀ a, (![j, e, 0, 0] : Fin 4 → Nat) a + S1x1x256x512.size a ≤ S4x4x256x512.size a) (Q : QC F) : Vec F S1x1x256x512 .i8 :=
  (Memref.whole cc0_scratch0).view.readAt (Elt F) (Rect.unit (s := S4x4x256x512) ![j, e, 0, 0] S1x1x256x512.size h).toLoadRect Q
/-- and a slot's scales. -/
abbrev rdS (j : ℕ) (h : ∀ a, (![j, 0, 0] : Fin 3 → Nat) a + S1x4x512.size a ≤ S4x4x512.size a) (S : SC F) : Vec F S1x4x512 .f32 :=
  (Memref.whole cc0_scratch1).view.readAt (Elt F) (Rect.unit (s := S4x4x512) ![j, 0, 0] S1x4x512.size h).toLoadRect S

/-- A staging buffer at its contents. -/
abbrev sp (c : Dev nD) (b : Ref sig .tc) (X : b.ty.Contents (Elt F)) : sProp 𝕄 := iprop((c : Thread nD τ).loc b ↦{fullShare} X)

abbrev wpB (c : Dev nD) {α : Type} (p : Prog (TpuEff nD τ sig (Elt F) Λ₀ .tc) α) (Kt : α → sProp 𝕄) : sProp 𝕄 :=
  wp frame (wpE (defs₀ (F := F)) 𝒱₀ (c : Thread nD τ) none) Set.univ p Kt

theorem two_zero : (![0, 0] : Fin 2 → Nat) = fun _ => 0 := by funext i; fin_cases i <;> rfl
theorem three_zero : (![0, 0, 0] : Fin 3 → Nat) = fun _ => 0 := by funext i; fin_cases i <;> rfl
theorem read_x (X : (cc0_stg0_0 : Ref sig .tc).ty.Contents (Elt F)) : (Memref.whole cc0_stg0_0).view.readAt (Elt F) (Rect.unit (s := S1024x256) ![0, 0] S1024x256.size inb_S1024x256_S1024x256_0_0).toLoadRect X = X :=
  Memref.readAt_unit_zero (Elt F) cc0_stg0_0 two_zero _ X
theorem read_r (X : (cc0_stg1_0 : Ref sig .tc).ty.Contents (Elt F)) : (Memref.whole cc0_stg1_0).view.readAt (Elt F) (Rect.unit (s := S256x16) ![0, 0] S256x16.size inb_S256x16_S256x16_0_0).toLoadRect X = X :=
  Memref.readAt_unit_zero (Elt F) cc0_stg1_0 two_zero _ X
theorem read_e (X : (cc0_stg3_0 : Ref sig .tc).ty.Contents (Elt F)) : (Memref.whole cc0_stg3_0).view.readAt (Elt F) (Rect.unit (s := S4x256x512) ![0, 0, 0] S4x256x512.size inb_S4x256x512_S4x256x512_0_0_0).toLoadRect X = X :=
  Memref.readAt_unit_zero (Elt F) cc0_stg3_0 three_zero _ X
abbrev rO : Rect S1024x512 := Rect.unit (s := S1024x512) ![0, 0] S1024x512.size inb_S1024x512_S1024x512_0_0
theorem read_o (X : (cc0_stg4_0 : Ref sig .tc).ty.Contents (Elt F)) : (Memref.whole cc0_stg4_0).view.readAt (Elt F) (Rect.unit (s := S1024x512) ![0, 0] S1024x512.size inb_S1024x512_S1024x512_0_0).toLoadRect X = X :=
  Memref.readAt_unit_zero (Elt F) cc0_stg4_0 two_zero _ X
theorem write_o (X w : (cc0_stg4_0 : Ref sig .tc).ty.Contents (Elt F)) : ((Memref.whole cc0_stg4_0).access rO).write (Elt F) X w Finset.univ = w :=
  Memref.write_access_unit_zero_univ (Elt F) cc0_stg4_0 two_zero _ X w

/-! ## The scratch buffers' loads and stores -/

theorem load_q (c : Dev nD) (j e : ℕ) (hj : j < 4) (h : ∀ a, (![j, e, 0, 0] : Fin 4 → Nat) a + S1x1x256x512.size a ≤ S4x4x256x512.size a)
    (f : QC F) {hl} {α : Type} {Kt : α → sProp 𝕄} {k : _ → Prog (TpuEff nD τ sig (Elt F) Λ₀ .tc) α} :
    qPts j hj c fullShare f ⊢ iprop((qPts j hj c fullShare f -∗ wp frame (wpE (defs₀ (F := F)) 𝒱₀ (c : Thread nD τ) none) Set.univ (k (rdQ j e h f)) Kt)
      -∗ wp frame (wpE (defs₀ (F := F)) 𝒱₀ (c : Thread nD τ) none) Set.univ (.op (.load (Memref.whole cc0_scratch0) (Rect.unit (s := S4x4x256x512) ![j, e, 0, 0] S1x1x256x512.size h).toLoadRect hl) k) Kt) := by
  unfold qPts
  iintro Hq Hk
  iapply (wp_load 𝒱₀ (c : Thread nD τ) none Set.univ (m := Memref.whole cc0_scratch0) (q_sub j e hj h)) $$ Hq; iintro Hq
  iapply Hk; iexact Hq
theorem load_s (c : Dev nD) (j : ℕ) (hj : j < 4) (h : ∀ a, (![j, 0, 0] : Fin 3 → Nat) a + S1x4x512.size a ≤ S4x4x512.size a)
    (f : SC F) {hl} {α : Type} {Kt : α → sProp 𝕄} {k : _ → Prog (TpuEff nD τ sig (Elt F) Λ₀ .tc) α} :
    sPts j hj c fullShare f ⊢ iprop((sPts j hj c fullShare f -∗ wp frame (wpE (defs₀ (F := F)) 𝒱₀ (c : Thread nD τ) none) Set.univ (k (rdS j h f)) Kt)
      -∗ wp frame (wpE (defs₀ (F := F)) 𝒱₀ (c : Thread nD τ) none) Set.univ (.op (.load (Memref.whole cc0_scratch1) (Rect.unit (s := S4x4x512) ![j, 0, 0] S1x4x512.size h).toLoadRect hl) k) Kt) := by
  unfold sPts
  iintro Hq Hk
  iapply (wp_load 𝒱₀ (c : Thread nD τ) none Set.univ (m := Memref.whole cc0_scratch1) (s_sub j hj h)) $$ Hq; iintro Hq
  iapply Hk; iexact Hq
/-- Slot 0 overwritten by the device's quantised weights (the load before it is not used), -/
theorem store_q (c : Dev nD) (f : QC F) {hl hs hm} {α : Type} {Kt : α → sProp 𝕄} {k : PUnit → Prog (TpuEff nD τ sig (Elt F) Λ₀ .tc) α} :
    qPts 0 h04 c fullShare f ⊢ iprop((qPts 0 h04 c fullShare (qAll m c) -∗ wp frame (wpE (defs₀ (F := F)) 𝒱₀ (c : Thread nD τ) none) Set.univ (k ⟨⟩) Kt)
      -∗ wp frame (wpE (defs₀ (F := F)) 𝒱₀ (c : Thread nD τ) none) Set.univ (.op (.load (Memref.whole cc0_scratch0) rQ0.toLoadRect hl) fun _ =>
        .op (.store (Memref.whole cc0_scratch0) rQ0 (k0_pay3 (F := F) (ein m c)) Finset.univ hs hm) k) Kt) := by
  rw [← q_store m c f]
  unfold qPts
  iintro Hq Hk
  iapply (wp_load 𝒱₀ (c : Thread nD τ) none Set.univ (m := Memref.whole cc0_scratch0) q_sub0) $$ Hq; iintro Hq
  iapply (wp_store 𝒱₀ (c : Thread nD τ) none Set.univ (m := Memref.whole cc0_scratch0) (r := rQ0) (Mk := Finset.univ) setQ0.le) $$ Hq; iintro Hq
  iapply Hk; iexact Hq
/-- and by its scales. -/
theorem store_s (c : Dev nD) (f : SC F) {hl hs hm} {α : Type} {Kt : α → sProp 𝕄} {k : PUnit → Prog (TpuEff nD τ sig (Elt F) Λ₀ .tc) α} :
    sPts 0 h04 c fullShare f ⊢ iprop((sPts 0 h04 c fullShare (sAll m c) -∗ wp frame (wpE (defs₀ (F := F)) 𝒱₀ (c : Thread nD τ) none) Set.univ (k ⟨⟩) Kt)
      -∗ wp frame (wpE (defs₀ (F := F)) 𝒱₀ (c : Thread nD τ) none) Set.univ (.op (.load (Memref.whole cc0_scratch1) rS0.toLoadRect hl) fun _ =>
        .op (.store (Memref.whole cc0_scratch1) rS0 (k0_pay4 (F := F) (ein m c)) Finset.univ hs hm) k) Kt) := by
  rw [← s_store m c f]
  unfold sPts
  iintro Hq Hk
  iapply (wp_load 𝒱₀ (c : Thread nD τ) none Set.univ (m := Memref.whole cc0_scratch1) (s_sub 0 h04 inb_S4x4x512_S1x4x512_0_0_0)) $$ Hq; iintro Hq
  iapply (wp_store 𝒱₀ (c : Thread nD τ) none Set.univ (m := Memref.whole cc0_scratch1) (r := rS0) (Mk := Finset.univ) setS0.le) $$ Hq; iintro Hq
  iapply Hk; iexact Hq

/-! ## The parts -/

/-- The first two signals. -/
theorem part1_wp (c : Dev nD)  (Kt : _ → sProp 𝕄) :
    iprop((records m K ∗ ow c (O₀ c) ∗ dutyTok ER (barCell (sh 1 c)) 0 (2 : Fin 3) ∗ dutyTok ER (barCell (sh 2 c)) 0 (1 : Fin 3) ∗ slotPay 3 h34 c ∗ slotPay 2 h24 c) ∗ (∀ v30 c4 v31, ((ow c (OB3 c)) -∗ Kt ⟨c, V2 c, SemArray.scalar (sig.barrier 0 rfl), v30, c4, v31⟩)))
      ⊢ wpB c (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 ) Kt := by
  unfold wpB
  simp only [k0_part1_eq_skeleton]; unfold k0_part1_skel
  simp only [semSignalWord, semWaitWord, Prog.lift, Prog.bind_op, Prog.bind_ret, Prog.pure_eq_ret, wp_deviceId]
  iintro ⟨⟨#HR, HO, Ht1, Ht2, Hp3, Hp2⟩, Hk⟩
  ihave Hp3 : barPay 2 (sh 1 c) $$ [Hp3]; · rw [show barPay (F := F) 2 (sh 1 c) = slotPay 3 h34 (sh 3 (sh 1 c)) from rfl, sh31]; iexact Hp3
  ihave Hp2 : barPay 1 (sh 2 c) $$ [Hp2]; · rw [show barPay (F := F) 1 (sh 2 c) = slotPay 2 h24 (sh 2 (sh 2 c)) from rfl, sh22]; iexact Hp2
  iapply (signal_bar m K c _ (sh 1 c) (dev1_eq c) 2 (OB2 c) rfl) $$ [HO Ht1 Hp3]
  · isplitr; · iexact HR
    isplitl [HO]; · iexact HO
    isplitl [Ht1]; · iexact Ht1
    iexact Hp3
  iintro HO
  iapply (signal_bar m K c _ (sh 2 c) (dev2_eq c) 1 (OB3 c) rfl) $$ [HO Ht2 Hp2]
  · isplitr; · iexact HR
    isplitl [HO]; · iexact HO
    isplitl [Ht2]; · iexact Ht2
    iexact Hp2
  iintro HO
  rw [wp_ret]; imodintro
  iapply Hk
  iexact HO

/-- The third signal, the quantisation into slot 0, and the wait for the three peers. -/
theorem part2_wp (c : Dev nD) (v3 : Sems sig S_) (hv3 : v3 = SemArray.scalar (sig.barrier 0 rfl)) (v30 c4 : BitVec 32) (v31 : BitVec 1) (fq : QC F) (fs : SC F) (Kt : _ → sProp 𝕄) :
    iprop((records m K ∗ levAts L lv ∗ ow c (OB3 c) ∗ dutyTok ER (barCell (sh 3 c)) 0 (0 : Fin 3) ∗ slotPay 1 h14 c ∗ sp c cc0_stg3_0 (ein m c) ∗ qPts 0 h04 c fullShare fq ∗ sPts 0 h04 c fullShare fs ∗ cred (tallyAt (barCell c) () 3) ∗ atPos ER (barCell c) 0 ∅ 0) ∗ ((ow c (OS1 c) ∗ sp c cc0_stg3_0 (ein m c) ∗ qPts 0 h04 c fullShare (qAll m c) ∗ sPts 0 h04 c fullShare (sAll m c) ∗ semVal (barCell c) 0 ∗ slotPay 1 h14 (sh 1 c) ∗ slotPay 2 h24 (sh 2 c) ∗ slotPay 3 h34 (sh 3 c)) -∗ Kt 1#32))
      ⊢ wpB c (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c v3 v30 c4 v31) Kt := by
  subst hv3
  unfold wpB
  simp only [k0_part2_eq_skeleton]; unfold k0_part2_skel
  simp only [semSignalWord, semWaitWord, Prog.lift, Prog.bind_op, Prog.bind_ret, Prog.pure_eq_ret, wp_deviceId]
  iintro ⟨⟨#HR, #Hlev, HO, Ht, Hp, He, Hq, Hs, Hc, Hat⟩, Hk⟩
  ihave Hp : barPay 0 (sh 3 c) $$ [Hp]; · rw [show barPay (F := F) 0 (sh 3 c) = slotPay 1 h14 (sh 1 (sh 3 c)) from rfl, sh13]; iexact Hp
  iapply (signal_bar m K c _ (sh 3 c) (dev3_eq c) 0 (OS1 c) rfl) $$ [HO Ht Hp]
  · isplitr; · iexact HR
    isplitl [HO]; · iexact HO
    isplitl [Ht]; · iexact Ht
    iexact Hp
  iintro HO
  iapply (wp_load 𝒱₀ (c : Thread nD τ) none Set.univ (m := Memref.whole cc0_stg3_0) (Finset.subset_univ _)) $$ He; iintro He
  rw [read_e]
  iapply (store_q m c _) $$ Hq; iintro Hq
  iapply (store_s m c _) $$ Hs; iintro Hs
  iapply (wait_bar m K c rfl) $$ [Hc HO Hat]
  · isplitr; · iexact HR
    isplitr; · iexact Hlev
    isplitl [Hc]; · iexact Hc
    isplitl [HO]; · iexact HO
    iexact Hat
  iintro ⟨HO, Hz, H1, H2, H3⟩
  rw [wp_ret]; imodintro
  iapply Hk
  isplitl [HO]; · iexact HO
  isplitl [He]; · iexact He
  isplitl [Hq]; · iexact Hq
  isplitl [Hs]; · iexact Hs
  isplitl [Hz]; · iexact Hz
  isplitl [H1]; · iexact H1
  isplitl [H2]; · iexact H2
  iexact H3

/-- The scales to the next device. -/
theorem part3_wp (c : Dev nD) (v2 c1 : BitVec 32) (fs : SC F) (Kt : _ → sProp 𝕄) :
    iprop((records m K ∗ ow c (OS1 c) ∗ sThird m 0 c ∗ sPts 1 h14 (sh 1 c) fullShare fs ∗ dutyTok ER (dmaCell 11 (by decide) c) 0 (0 : Fin 3) ∗ dutyTok ER (dmaCell 14 (by decide) (sh 1 c)) 0 (0 : Fin 3)) ∗ (∀ v, ((ow c (OQ1 c) ∗ cred (tallyAt (dmaCell 11 (by decide) c) () NS)) -∗ Kt v)))
      ⊢ wpB c (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c v2 c1) Kt := by
  unfold wpB
  simp only [k0_part3_eq_skeleton]; unfold k0_part3_skel
  simp only [semSignalWord, semWaitWord, Prog.lift, Prog.bind_op, Prog.bind_ret, Prog.pure_eq_ret, wp_deviceId]
  iintro ⟨⟨#HR, HO, Hs, Hds, Has, Hbs⟩, Hk⟩
  iapply (send_s m K c _ (sh 1 c) (dev4_eq c) 1 h14 0 11 14 (by decide) (by decide) (by decide) (by decide) (by decide) (by decide) rfl (by rw [show dmaPay (F := F) m 14 (sh 1 c) = sPts 1 h14 (sh 1 c) fullShare (sAll m (sh 3 (sh 1 c))) from rfl, sh31]) (OQ1 c) fs) $$ [Hs Hds HO Has Hbs]
  · isplitr; · iexact HR
    isplitl [Hs]; · iexact Hs
    isplitl [Hds]; · iexact Hds
    isplitl [HO]; · iexact HO
    isplitl [Has]; · iexact Has
    iexact Hbs
  iintro ⟨Hcs, HO⟩
  rw [wp_ret]; imodintro
  iapply Hk
  isplitl [HO]; · iexact HO
  iexact Hcs

/-- The weights to the next device and the scales to the one after. -/
theorem part4_wp (c : Dev nD) (v2 : BitVec 32) (fq : QC F) (fs : SC F) (Kt : _ → sProp 𝕄) :
    iprop((records m K ∗ ow c (OQ1 c) ∗ qThird m 0 c ∗ qPts 1 h14 (sh 1 c) fullShare fq ∗ dutyTok ER (dmaCell 5 (by decide) c) 0 (0 : Fin 3) ∗ dutyTok ER (dmaCell 8 (by decide) (sh 1 c)) 0 (0 : Fin 3) ∗ sThird m 1 c ∗ sPts 2 h24 (sh 2 c) fullShare fs ∗ dutyTok ER (dmaCell 12 (by decide) c) 0 (0 : Fin 3) ∗ dutyTok ER (dmaCell 15 (by decide) (sh 2 c)) 0 (0 : Fin 3)) ∗ (∀ v, ((ow c (OQ2 c) ∗ cred (tallyAt (dmaCell 5 (by decide) c) () NQ) ∗ cred (tallyAt (dmaCell 12 (by decide) c) () NS)) -∗ Kt v)))
      ⊢ wpB c (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c v2) Kt := by
  unfold wpB
  simp only [k0_part4_eq_skeleton]; unfold k0_part4_skel
  simp only [semSignalWord, semWaitWord, Prog.lift, Prog.bind_op, Prog.bind_ret, Prog.pure_eq_ret, wp_deviceId]
  iintro ⟨⟨#HR, HO, Hq, Hdq, Haq, Hbq, Hs, Hds, Has, Hbs⟩, Hk⟩
  iapply (send_q m K c _ (sh 1 c) (dev5_eq c) 1 h14 0 5 8 (by decide) (by decide) (by decide) (by decide) (by decide) (by decide) rfl (by rw [show dmaPay (F := F) m 8 (sh 1 c) = qPts 1 h14 (sh 1 c) fullShare (qAll m (sh 3 (sh 1 c))) from rfl, sh31]) (OS2 c) fq) $$ [Hq Hdq HO Haq Hbq]
  · isplitr; · iexact HR
    isplitl [Hq]; · iexact Hq
    isplitl [Hdq]; · iexact Hdq
    isplitl [HO]; · iexact HO
    isplitl [Haq]; · iexact Haq
    iexact Hbq
  iintro ⟨Hcq, HO⟩
  iapply (send_s m K c _ (sh 2 c) (dev6_eq c) 2 h24 1 12 15 (by decide) (by decide) (by decide) (by decide) (by decide) (by decide) rfl (by rw [show dmaPay (F := F) m 15 (sh 2 c) = sPts 2 h24 (sh 2 c) fullShare (sAll m (sh 2 (sh 2 c))) from rfl, sh22]) (OQ2 c) fs) $$ [Hs Hds HO Has Hbs]
  · isplitr; · iexact HR
    isplitl [Hs]; · iexact Hs
    isplitl [Hds]; · iexact Hds
    isplitl [HO]; · iexact HO
    isplitl [Has]; · iexact Has
    iexact Hbs
  iintro ⟨Hcs, HO⟩
  rw [wp_ret]; imodintro
  iapply Hk
  isplitl [HO]; · iexact HO
  isplitl [Hcq]; · iexact Hcq
  iexact Hcs

/-- The weights two devices on and the scales three devices on. -/
theorem part5_wp (c : Dev nD) (v2 : BitVec 32) (fq : QC F) (fs : SC F) (Kt : _ → sProp 𝕄) :
    iprop((records m K ∗ ow c (OQ2 c) ∗ qThird m 1 c ∗ qPts 2 h24 (sh 2 c) fullShare fq ∗ dutyTok ER (dmaCell 6 (by decide) c) 0 (0 : Fin 3) ∗ dutyTok ER (dmaCell 9 (by decide) (sh 2 c)) 0 (0 : Fin 3) ∗ sThird m 2 c ∗ sPts 3 h34 (sh 3 c) fullShare fs ∗ dutyTok ER (dmaCell 13 (by decide) c) 0 (0 : Fin 3) ∗ dutyTok ER (dmaCell 16 (by decide) (sh 3 c)) 0 (0 : Fin 3)) ∗ (∀ v, ((ow c (OQ3 c) ∗ cred (tallyAt (dmaCell 6 (by decide) c) () NQ) ∗ cred (tallyAt (dmaCell 13 (by decide) c) () NS)) -∗ Kt v)))
      ⊢ wpB c (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c v2) Kt := by
  unfold wpB
  simp only [k0_part5_eq_skeleton]; unfold k0_part5_skel
  simp only [semSignalWord, semWaitWord, Prog.lift, Prog.bind_op, Prog.bind_ret, Prog.pure_eq_ret, wp_deviceId]
  iintro ⟨⟨#HR, HO, Hq, Hdq, Haq, Hbq, Hs, Hds, Has, Hbs⟩, Hk⟩
  iapply (send_q m K c _ (sh 2 c) (dev7_eq c) 2 h24 1 6 9 (by decide) (by decide) (by decide) (by decide) (by decide) (by decide) rfl (by rw [show dmaPay (F := F) m 9 (sh 2 c) = qPts 2 h24 (sh 2 c) fullShare (qAll m (sh 2 (sh 2 c))) from rfl, sh22]) (OS3 c) fq) $$ [Hq Hdq HO Haq Hbq]
  · isplitr; · iexact HR
    isplitl [Hq]; · iexact Hq
    isplitl [Hdq]; · iexact Hdq
    isplitl [HO]; · iexact HO
    isplitl [Haq]; · iexact Haq
    iexact Hbq
  iintro ⟨Hcq, HO⟩
  iapply (send_s m K c _ (sh 3 c) (dev8_eq c) 3 h34 2 13 16 (by decide) (by decide) (by decide) (by decide) (by decide) (by decide) rfl (by rw [show dmaPay (F := F) m 16 (sh 3 c) = sPts 3 h34 (sh 3 c) fullShare (sAll m (sh 1 (sh 3 c))) from rfl, sh13]) (OQ3 c) fs) $$ [Hs Hds HO Has Hbs]
  · isplitr; · iexact HR
    isplitl [Hs]; · iexact Hs
    isplitl [Hds]; · iexact Hds
    isplitl [HO]; · iexact HO
    isplitl [Has]; · iexact Has
    iexact Hbs
  iintro ⟨Hcs, HO⟩
  rw [wp_ret]; imodintro
  iapply Hk
  isplitl [HO]; · iexact HO
  isplitl [Hcq]; · iexact Hcq
  iexact Hcs

/-- The last copy, and the routing weights. -/
theorem part6_wp (c : Dev nD) (fq : QC F) (X : (cc0_stg0_0 : Ref sig .tc).ty.Contents (Elt F)) (R : (cc0_stg1_0 : Ref sig .tc).ty.Contents (Elt F)) (I : (cc0_stg2_0 : Ref sig .tc).ty.Contents (Elt F)) (Kt : _ → sProp 𝕄) :
    iprop((records m K ∗ ow c (OQ3 c) ∗ qThird m 2 c ∗ qPts 3 h34 (sh 3 c) fullShare fq ∗ dutyTok ER (dmaCell 7 (by decide) c) 0 (0 : Fin 3) ∗ dutyTok ER (dmaCell 10 (by decide) (sh 3 c)) 0 (0 : Fin 3) ∗ sp c cc0_stg0_0 X ∗ sp c cc0_stg1_0 R ∗ sp c cc0_stg2_0 I) ∗ ((ow c (0) ∗ cred (tallyAt (dmaCell 7 (by decide) c) () NQ) ∗ sp c cc0_stg0_0 X ∗ sp c cc0_stg1_0 R ∗ sp c cc0_stg2_0 I) -∗ Kt ⟨colI, k0_pay5 X R (rdI 0 inb_S1024x2_S1024x1_0_0 I) (rdI 1 inb_S1024x2_S1024x1_0_1 I)⟩))
      ⊢ wpB c (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c) Kt := by
  unfold wpB
  simp only [k0_part6_eq_skeleton]; unfold k0_part6_skel
  simp only [semSignalWord, semWaitWord, Prog.lift, Prog.bind_op, Prog.bind_ret, Prog.pure_eq_ret, wp_deviceId]
  iintro ⟨⟨#HR, HO, Hq, Hdq, Haq, Hbq, Hx, Hr, Hi⟩, Hk⟩
  ihave HO : ow c (0 + tallyAt (dmaCell 10 (by decide) (sh 3 c)) () NQ) $$ [HO]; · rw [zero_add]; unfold OQ3; iexact HO
  iapply (send_q m K c _ (sh 3 c) (dev9_eq c) 3 h34 2 7 10 (by decide) (by decide) (by decide) (by decide) (by decide) (by decide) rfl (by rw [show dmaPay (F := F) m 10 (sh 3 c) = qPts 3 h34 (sh 3 c) fullShare (qAll m (sh 1 (sh 3 c))) from rfl, sh13]) 0 fq) $$ [Hq Hdq HO Haq Hbq]
  · isplitr; · iexact HR
    isplitl [Hq]; · iexact Hq
    isplitl [Hdq]; · iexact Hdq
    isplitl [HO]; · iexact HO
    isplitl [Haq]; · iexact Haq
    iexact Hbq
  iintro ⟨Hcq, HO⟩
  iapply (wp_load 𝒱₀ (c : Thread nD τ) none Set.univ (m := Memref.whole cc0_stg0_0) (Finset.subset_univ _)) $$ Hx; iintro Hx
  rw [read_x]
  iapply (wp_load 𝒱₀ (c : Thread nD τ) none Set.univ (m := Memref.whole cc0_stg1_0) (Finset.subset_univ _)) $$ Hr; iintro Hr
  rw [read_r]
  iapply (wp_load 𝒱₀ (c : Thread nD τ) none Set.univ (m := Memref.whole cc0_stg2_0) (Finset.subset_univ _)) $$ Hi; iintro Hi
  iapply (wp_load 𝒱₀ (c : Thread nD τ) none Set.univ (m := Memref.whole cc0_stg2_0) (Finset.subset_univ _)) $$ Hi; iintro Hi
  rw [wp_ret]; imodintro
  iapply Hk
  isplitl [HO]; · iexact HO
  isplitl [Hcq]; · iexact Hcq
  isplitl [Hx]; · iexact Hx
  isplitl [Hr]; · iexact Hr
  iexact Hi

/-- The device's first own expert. -/
theorem part7_wp (c : Dev nD) (v2 : BitVec 32) (v162 : IVec S1024x16 32) (v196 : FVec F S1024x16 .f32) (X : (cc0_stg0_0 : Ref sig .tc).ty.Contents (Elt F)) (E : (cc0_stg3_0 : Ref sig .tc).ty.Contents (Elt F)) (A : (cc0_stg4_0 : Ref sig .tc).ty.Contents (Elt F)) (Kt : _ → sProp 𝕄) :
    iprop((sp c cc0_stg0_0 X ∗ sp c cc0_stg3_0 E ∗ sp c cc0_stg4_0 (A)) ∗ ((sp c cc0_stg0_0 X ∗ sp c cc0_stg3_0 E ∗ sp c cc0_stg4_0 (k0_pay7 v2 v162 v196 X (rdE 0 inb_S4x256x512_S1x256x512_0_0_0 E))) -∗ Kt ⟨k0_pay6 X, mw v2 0#32, k0_pay8 v2 v162 v196⟩))
      ⊢ wpB c (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 v2 v162 v196) Kt := by
  unfold wpB
  simp only [k0_part7_eq_skeleton]; unfold k0_part7_skel
  simp only [semSignalWord, semWaitWord, Prog.lift, Prog.bind_op, Prog.bind_ret, Prog.pure_eq_ret, wp_deviceId]
  iintro ⟨⟨Hx, He, Ho⟩, Hk⟩
  iapply (wp_load 𝒱₀ (c : Thread nD τ) none Set.univ (m := Memref.whole cc0_stg0_0) (Finset.subset_univ _)) $$ Hx; iintro Hx
  rw [read_x]
  iapply (wp_load 𝒱₀ (c : Thread nD τ) none Set.univ (m := Memref.whole cc0_stg3_0) (Finset.subset_univ _)) $$ He; iintro He
  iapply (wp_load 𝒱₀ (c : Thread nD τ) none Set.univ (m := Memref.whole cc0_stg4_0) (Finset.subset_univ _)) $$ Ho; iintro Ho
  iapply (wp_store 𝒱₀ (c : Thread nD τ) none Set.univ (m := Memref.whole cc0_stg4_0) (r := rO) (Mk := Finset.univ) (Finset.subset_univ _)) $$ Ho; iintro Ho
  rw [write_o]
  rw [wp_ret]; imodintro
  iapply Hk
  isplitl [Hx]; · iexact Hx
  isplitl [He]; · iexact He
  iexact Ho

/-- Its second and third. -/
theorem part8_wp (c : Dev nD) (v162 : IVec S1024x16 32) (v196 : FVec F S1024x16 .f32) (v199 : FVec F S1024x256 .bf16) (v210 : BitVec 32) (v232 : FVec F S1024 .f32) (E : (cc0_stg3_0 : Ref sig .tc).ty.Contents (Elt F)) (A : (cc0_stg4_0 : Ref sig .tc).ty.Contents (Elt F)) (Kt : _ → sProp 𝕄) :
    iprop((sp c cc0_stg3_0 E ∗ sp c cc0_stg4_0 (A)) ∗ ((sp c cc0_stg3_0 E ∗ sp c cc0_stg4_0 (k0_pay10 v162 v196 v199 v210 (rdE 2 inb_S4x256x512_S1x256x512_2_0_0 E) (k0_pay9 v199 v232 (rdE 1 inb_S4x256x512_S1x256x512_1_0_0 E) A))) -∗ Kt (k0_pay11 v162 v196 v210)))
      ⊢ wpB c (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 v162 v196 v199 v210 v232) Kt := by
  unfold wpB
  simp only [k0_part8_eq_skeleton]; unfold k0_part8_skel
  simp only [semSignalWord, semWaitWord, Prog.lift, Prog.bind_op, Prog.bind_ret, Prog.pure_eq_ret, wp_deviceId]
  iintro ⟨⟨He, Ho⟩, Hk⟩
  iapply (wp_load 𝒱₀ (c : Thread nD τ) none Set.univ (m := Memref.whole cc0_stg3_0) (Finset.subset_univ _)) $$ He; iintro He
  iapply (wp_load 𝒱₀ (c : Thread nD τ) none Set.univ (m := Memref.whole cc0_stg4_0) (Finset.subset_univ _)) $$ Ho; iintro Ho
  rw [read_o]
  iapply (wp_load 𝒱₀ (c : Thread nD τ) none Set.univ (m := Memref.whole cc0_stg4_0) (Finset.subset_univ _)) $$ Ho; iintro Ho
  iapply (wp_store 𝒱₀ (c : Thread nD τ) none Set.univ (m := Memref.whole cc0_stg4_0) (r := rO) (Mk := Finset.univ) (Finset.subset_univ _)) $$ Ho; iintro Ho
  rw [write_o]
  iapply (wp_load 𝒱₀ (c : Thread nD τ) none Set.univ (m := Memref.whole cc0_stg3_0) (Finset.subset_univ _)) $$ He; iintro He
  iapply (wp_load 𝒱₀ (c : Thread nD τ) none Set.univ (m := Memref.whole cc0_stg4_0) (Finset.subset_univ _)) $$ Ho; iintro Ho
  rw [read_o]
  iapply (wp_load 𝒱₀ (c : Thread nD τ) none Set.univ (m := Memref.whole cc0_stg4_0) (Finset.subset_univ _)) $$ Ho; iintro Ho
  iapply (wp_store 𝒱₀ (c : Thread nD τ) none Set.univ (m := Memref.whole cc0_stg4_0) (r := rO) (Mk := Finset.univ) (Finset.subset_univ _)) $$ Ho; iintro Ho
  rw [write_o]
  rw [wp_ret]; imodintro
  iapply Hk
  isplitl [He]; · iexact He
  iexact Ho

/-- Its fourth, and the wait for the scales from three devices on. -/
theorem part9_wp (c : Dev nD) (v74 : BitVec 32) (v199 : FVec F S1024x256 .bf16) (v267 : FVec F S1024x16 .f32) (E : (cc0_stg3_0 : Ref sig .tc).ty.Contents (Elt F)) (A : (cc0_stg4_0 : Ref sig .tc).ty.Contents (Elt F)) (Kt : _ → sProp 𝕄) :
    iprop((records m K ∗ ow c (0) ∗ cred (tallyAt (dmaCell 14 (by decide) c) () NS) ∗ atPos ER (dmaCell 14 (by decide) c) 0 ∅ 0 ∗ sp c cc0_stg3_0 E ∗ sp c cc0_stg4_0 (A)) ∗ ((ow c (0) ∗ semVal (dmaCell 14 (by decide) c) 0 ∗ sPts 1 h14 c fullShare (sAll m (sh 3 c)) ∗ sp c cc0_stg3_0 E ∗ sp c cc0_stg4_0 (k0_pay12 v199 v267 (rdE 3 inb_S4x256x512_S1x256x512_3_0_0 E) A)) -∗ Kt ⟨⟩))
      ⊢ wpB c (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 v74 v199 v267) Kt := by
  unfold wpB
  simp only [k0_part9_eq_skeleton]; unfold k0_part9_skel
  simp only [semSignalWord, semWaitWord, Prog.lift, Prog.bind_op, Prog.bind_ret, Prog.pure_eq_ret, wp_deviceId]
  iintro ⟨⟨#HR, HO, Hc14, Hat14, He, Ho⟩, Hk⟩
  iapply (wp_load 𝒱₀ (c : Thread nD τ) none Set.univ (m := Memref.whole cc0_stg3_0) (Finset.subset_univ _)) $$ He; iintro He
  iapply (wp_load 𝒱₀ (c : Thread nD τ) none Set.univ (m := Memref.whole cc0_stg4_0) (Finset.subset_univ _)) $$ Ho; iintro Ho
  rw [read_o]
  iapply (wp_load 𝒱₀ (c : Thread nD τ) none Set.univ (m := Memref.whole cc0_stg4_0) (Finset.subset_univ _)) $$ Ho; iintro Ho
  iapply (wp_store 𝒱₀ (c : Thread nD τ) none Set.univ (m := Memref.whole cc0_stg4_0) (r := rO) (Mk := Finset.univ) (Finset.subset_univ _)) $$ Ho; iintro Ho
  rw [write_o]
  iapply (wait_dma m K c 14 (by decide) (by decide) (src := sM 0 h04) (dst := sM 1 h14) NS (amount_s m 14 (by decide) (by decide) c) rfl) $$ [HO Hc14 Hat14]
  · isplitr; · iexact HR
    isplitl [Hc14]; · iexact Hc14
    isplitl [HO]; · iexact HO
    iexact Hat14
  iintro ⟨HO, Hz14, Hp14⟩
  ihave Hp14 : sPts 1 h14 c fullShare (sAll m (sh 3 c)) $$ [Hp14]; · iapply (Entails.of_eq (show dmaPay (F := F) m 14 c = sPts 1 h14 c fullShare (sAll m (sh 3 c)) from rfl)); iexact Hp14
  rw [wp_ret]; imodintro
  iapply Hk
  isplitl [HO]; · iexact HO
  isplitl [Hz14]; · iexact Hz14
  isplitl [Hp14]; · iexact Hp14
  isplitl [He]; · iexact He
  iexact Ho

/-- The weights from three devices on; the first of those experts. -/
theorem part10_wp (c : Dev nD) (v2 : BitVec 32) (v162 : IVec S1024x16 32) (v196 : FVec F S1024x16 .f32) (v199 : FVec F S1024x256 .bf16) (A : (cc0_stg4_0 : Ref sig .tc).ty.Contents (Elt F)) (Kt : _ → sProp 𝕄) :
    iprop((records m K ∗ ow c (0) ∗ cred (tallyAt (dmaCell 8 (by decide) c) () NQ) ∗ atPos ER (dmaCell 8 (by decide) c) 0 ∅ 0 ∗ sPts 1 h14 c fullShare (sAll m (sh 3 c)) ∗ sp c cc0_stg4_0 (A)) ∗ ((ow c (0) ∗ semVal (dmaCell 8 (by decide) c) 0 ∗ qPts 1 h14 c fullShare (qAll m (sh 3 c)) ∗ sPts 1 h14 c fullShare (sAll m (sh 3 c)) ∗ sp c cc0_stg4_0 (k0_pay14 v2 v162 v196 v199 (rdS 1 inb_S4x4x512_S1x4x512_1_0_0 (sAll m (sh 3 c))) (rdQ 1 0 inb_S4x4x256x512_S1x1x256x512_1_0_0_0 (qAll m (sh 3 c))) A)) -∗ Kt ⟨k0_pay13 (rdS 1 inb_S4x4x512_S1x4x512_1_0_0 (sAll m (sh 3 c))), mw v2 1#32⟩))
      ⊢ wpB c (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 v2 v162 v196 v199) Kt := by
  unfold wpB
  simp only [k0_part10_eq_skeleton]; unfold k0_part10_skel
  simp only [semSignalWord, semWaitWord, Prog.lift, Prog.bind_op, Prog.bind_ret, Prog.pure_eq_ret, wp_deviceId]
  iintro ⟨⟨#HR, HO, Hc8, Hat8, Hs, Ho⟩, Hk⟩
  iapply (wait_dma m K c 8 (by decide) (by decide) (src := qM 0 h04) (dst := qM 1 h14) NQ (amount_q m 8 (by decide) (by decide) c) rfl) $$ [HO Hc8 Hat8]
  · isplitr; · iexact HR
    isplitl [Hc8]; · iexact Hc8
    isplitl [HO]; · iexact HO
    iexact Hat8
  iintro ⟨HO, Hz8, Hp8⟩
  ihave Hp8 : qPts 1 h14 c fullShare (qAll m (sh 3 c)) $$ [Hp8]; · iapply (Entails.of_eq (show dmaPay (F := F) m 8 c = qPts 1 h14 c fullShare (qAll m (sh 3 c)) from rfl)); iexact Hp8
  irename Hp8 => Hq
  iapply (load_s c 1 h14 inb_S4x4x512_S1x4x512_1_0_0 _) $$ Hs; iintro Hs
  iapply (load_q c 1 0 h14 inb_S4x4x256x512_S1x1x256x512_1_0_0_0 _) $$ Hq; iintro Hq
  iapply (wp_load 𝒱₀ (c : Thread nD τ) none Set.univ (m := Memref.whole cc0_stg4_0) (Finset.subset_univ _)) $$ Ho; iintro Ho
  rw [read_o]
  iapply (wp_load 𝒱₀ (c : Thread nD τ) none Set.univ (m := Memref.whole cc0_stg4_0) (Finset.subset_univ _)) $$ Ho; iintro Ho
  iapply (wp_store 𝒱₀ (c : Thread nD τ) none Set.univ (m := Memref.whole cc0_stg4_0) (r := rO) (Mk := Finset.univ) (Finset.subset_univ _)) $$ Ho; iintro Ho
  rw [write_o]
  rw [wp_ret]; imodintro
  iapply Hk
  isplitl [HO]; · iexact HO
  isplitl [Hz8]; · iexact Hz8
  isplitl [Hq]; · iexact Hq
  isplitl [Hs]; · iexact Hs
  iexact Ho

/-- The second, and the third's product. -/
theorem part11_wp (c : Dev nD) (v162 : IVec S1024x16 32) (v196 : FVec F S1024x16 .f32) (v199 : FVec F S1024x256 .bf16) (v297 : FVec F S4x512 .f32) (v308 : BitVec 32) (A : (cc0_stg4_0 : Ref sig .tc).ty.Contents (Elt F)) (Kt : _ → sProp 𝕄) :
    iprop((qPts 1 h14 c fullShare (qAll m (sh 3 c)) ∗ sp c cc0_stg4_0 (A)) ∗ ((qPts 1 h14 c fullShare (qAll m (sh 3 c)) ∗ sp c cc0_stg4_0 (k0_pay15 v162 v196 v199 v297 v308 (rdQ 1 1 inb_S4x4x256x512_S1x1x256x512_1_1_0_0 (qAll m (sh 3 c))) A)) -∗ Kt ⟨k0_pay16 v162 v196 v199 v308 (rdQ 1 2 inb_S4x4x256x512_S1x1x256x512_1_2_0_0 (qAll m (sh 3 c))), k0_pay17 v297⟩))
      ⊢ wpB c (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 v162 v196 v199 v297 v308) Kt := by
  unfold wpB
  simp only [k0_part11_eq_skeleton]; unfold k0_part11_skel
  simp only [semSignalWord, semWaitWord, Prog.lift, Prog.bind_op, Prog.bind_ret, Prog.pure_eq_ret, wp_deviceId]
  iintro ⟨⟨Hq, Ho⟩, Hk⟩
  iapply (load_q c 1 1 h14 inb_S4x4x256x512_S1x1x256x512_1_1_0_0 _) $$ Hq; iintro Hq
  iapply (wp_load 𝒱₀ (c : Thread nD τ) none Set.univ (m := Memref.whole cc0_stg4_0) (Finset.subset_univ _)) $$ Ho; iintro Ho
  rw [read_o]
  iapply (wp_load 𝒱₀ (c : Thread nD τ) none Set.univ (m := Memref.whole cc0_stg4_0) (Finset.subset_univ _)) $$ Ho; iintro Ho
  iapply (wp_store 𝒱₀ (c : Thread nD τ) none Set.univ (m := Memref.whole cc0_stg4_0) (r := rO) (Mk := Finset.univ) (Finset.subset_univ _)) $$ Ho; iintro Ho
  rw [write_o]
  iapply (load_q c 1 2 h14 inb_S4x4x256x512_S1x1x256x512_1_2_0_0 _) $$ Hq; iintro Hq
  rw [wp_ret]; imodintro
  iapply Hk
  isplitl [Hq]; · iexact Hq
  iexact Ho

/-- The third and fourth. -/
theorem part12_wp (c : Dev nD) (v105 : BitVec 32) (v162 : IVec S1024x16 32) (v196 : FVec F S1024x16 .f32) (v199 : FVec F S1024x256 .bf16) (v297 : FVec F S4x512 .f32) (v308 : BitVec 32) (v364 v366 : FVec F S1024x512 .f32) (A : (cc0_stg4_0 : Ref sig .tc).ty.Contents (Elt F)) (Kt : _ → sProp 𝕄) :
    iprop((qPts 1 h14 c fullShare (qAll m (sh 3 c)) ∗ sp c cc0_stg4_0 (A)) ∗ ((qPts 1 h14 c fullShare (qAll m (sh 3 c)) ∗ sp c cc0_stg4_0 (k0_pay19 v162 v196 v199 v297 v308 (rdQ 1 3 inb_S4x4x256x512_S1x1x256x512_1_3_0_0 (qAll m (sh 3 c))) (k0_pay18 v364 v366 A))) -∗ Kt ⟨⟩))
      ⊢ wpB c (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 v105 v162 v196 v199 v297 v308 v364 v366) Kt := by
  unfold wpB
  simp only [k0_part12_eq_skeleton]; unfold k0_part12_skel
  simp only [semSignalWord, semWaitWord, Prog.lift, Prog.bind_op, Prog.bind_ret, Prog.pure_eq_ret, wp_deviceId]
  iintro ⟨⟨Hq, Ho⟩, Hk⟩
  iapply (wp_load 𝒱₀ (c : Thread nD τ) none Set.univ (m := Memref.whole cc0_stg4_0) (Finset.subset_univ _)) $$ Ho; iintro Ho
  rw [read_o]
  iapply (wp_load 𝒱₀ (c : Thread nD τ) none Set.univ (m := Memref.whole cc0_stg4_0) (Finset.subset_univ _)) $$ Ho; iintro Ho
  iapply (wp_store 𝒱₀ (c : Thread nD τ) none Set.univ (m := Memref.whole cc0_stg4_0) (r := rO) (Mk := Finset.univ) (Finset.subset_univ _)) $$ Ho; iintro Ho
  rw [write_o]
  iapply (load_q c 1 3 h14 inb_S4x4x256x512_S1x1x256x512_1_3_0_0 _) $$ Hq; iintro Hq
  iapply (wp_load 𝒱₀ (c : Thread nD τ) none Set.univ (m := Memref.whole cc0_stg4_0) (Finset.subset_univ _)) $$ Ho; iintro Ho
  rw [read_o]
  iapply (wp_load 𝒱₀ (c : Thread nD τ) none Set.univ (m := Memref.whole cc0_stg4_0) (Finset.subset_univ _)) $$ Ho; iintro Ho
  iapply (wp_store 𝒱₀ (c : Thread nD τ) none Set.univ (m := Memref.whole cc0_stg4_0) (r := rO) (Mk := Finset.univ) (Finset.subset_univ _)) $$ Ho; iintro Ho
  rw [write_o]
  rw [wp_ret]; imodintro
  iapply Hk
  isplitl [Hq]; · iexact Hq
  iexact Ho

/-- What comes from two devices on. -/
theorem part13_wp (c : Dev nD) (v2 v105 : BitVec 32) (v162 : IVec S1024x16 32) (v196 : FVec F S1024x16 .f32) (Kt : _ → sProp 𝕄) :
    iprop((records m K ∗ ow c (0) ∗ cred (tallyAt (dmaCell 15 (by decide) c) () NS) ∗ atPos ER (dmaCell 15 (by decide) c) 0 ∅ 0 ∗ cred (tallyAt (dmaCell 9 (by decide) c) () NQ) ∗ atPos ER (dmaCell 9 (by decide) c) 0 ∅ 0) ∗ ((ow c (0) ∗ semVal (dmaCell 15 (by decide) c) 0 ∗ semVal (dmaCell 9 (by decide) c) 0 ∗ qPts 2 h24 c fullShare (qAll m (sh 2 c)) ∗ sPts 2 h24 c fullShare (sAll m (sh 2 c))) -∗ Kt ⟨k0_pay20 (rdS 2 inb_S4x4x512_S1x4x512_2_0_0 (sAll m (sh 2 c))), mw v2 2#32, k0_pay21 v2 v162 v196⟩))
      ⊢ wpB c (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 v2 v105 v162 v196) Kt := by
  unfold wpB
  simp only [k0_part13_eq_skeleton]; unfold k0_part13_skel
  simp only [semSignalWord, semWaitWord, Prog.lift, Prog.bind_op, Prog.bind_ret, Prog.pure_eq_ret, wp_deviceId]
  iintro ⟨⟨#HR, HO, Hc15, Hat15, Hc9, Hat9⟩, Hk⟩
  iapply (wait_dma m K c 15 (by decide) (by decide) (src := sM 0 h04) (dst := sM 2 h24) NS (amount_s m 15 (by decide) (by decide) c) rfl) $$ [HO Hc15 Hat15]
  · isplitr; · iexact HR
    isplitl [Hc15]; · iexact Hc15
    isplitl [HO]; · iexact HO
    iexact Hat15
  iintro ⟨HO, Hz15, Hp15⟩
  ihave Hp15 : sPts 2 h24 c fullShare (sAll m (sh 2 c)) $$ [Hp15]; · iapply (Entails.of_eq (show dmaPay (F := F) m 15 c = sPts 2 h24 c fullShare (sAll m (sh 2 c)) from rfl)); iexact Hp15
  iapply (wait_dma m K c 9 (by decide) (by decide) (src := qM 0 h04) (dst := qM 2 h24) NQ (amount_q m 9 (by decide) (by decide) c) rfl) $$ [HO Hc9 Hat9]
  · isplitr; · iexact HR
    isplitl [Hc9]; · iexact Hc9
    isplitl [HO]; · iexact HO
    iexact Hat9
  iintro ⟨HO, Hz9, Hp9⟩
  ihave Hp9 : qPts 2 h24 c fullShare (qAll m (sh 2 c)) $$ [Hp9]; · iapply (Entails.of_eq (show dmaPay (F := F) m 9 c = qPts 2 h24 c fullShare (qAll m (sh 2 c)) from rfl)); iexact Hp9
  irename Hp15 => Hs
  iapply (load_s c 2 h24 inb_S4x4x512_S1x4x512_2_0_0 _) $$ Hs; iintro Hs
  rw [wp_ret]; imodintro
  iapply Hk
  isplitl [HO]; · iexact HO
  isplitl [Hz15]; · iexact Hz15
  isplitl [Hz9]; · iexact Hz9
  isplitl [Hp9]; · iexact Hp9
  iexact Hs

/-- Its first two experts. -/
theorem part14_wp (c : Dev nD) (v162 : IVec S1024x16 32) (v196 : FVec F S1024x16 .f32) (v199 : FVec F S1024x256 .bf16) (v410 : FVec F S4x512 .f32) (v421 : BitVec 32) (v429 : FVec F S1024x1 .f32) (A : (cc0_stg4_0 : Ref sig .tc).ty.Contents (Elt F)) (Kt : _ → sProp 𝕄) :
    iprop((qPts 2 h24 c fullShare (qAll m (sh 2 c)) ∗ sp c cc0_stg4_0 (A)) ∗ ((qPts 2 h24 c fullShare (qAll m (sh 2 c)) ∗ sp c cc0_stg4_0 (k0_pay23 v162 v196 v199 v410 v421 (rdQ 2 1 inb_S4x4x256x512_S1x1x256x512_2_1_0_0 (qAll m (sh 2 c))) (k0_pay22 v199 v410 v429 (rdQ 2 0 inb_S4x4x256x512_S1x1x256x512_2_0_0_0 (qAll m (sh 2 c))) A))) -∗ Kt (Scalar.muli v421 4#32)))
      ⊢ wpB c (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 v162 v196 v199 v410 v421 v429) Kt := by
  unfold wpB
  simp only [k0_part14_eq_skeleton]; unfold k0_part14_skel
  simp only [semSignalWord, semWaitWord, Prog.lift, Prog.bind_op, Prog.bind_ret, Prog.pure_eq_ret, wp_deviceId]
  iintro ⟨⟨Hq, Ho⟩, Hk⟩
  iapply (load_q c 2 0 h24 inb_S4x4x256x512_S1x1x256x512_2_0_0_0 _) $$ Hq; iintro Hq
  iapply (wp_load 𝒱₀ (c : Thread nD τ) none Set.univ (m := Memref.whole cc0_stg4_0) (Finset.subset_univ _)) $$ Ho; iintro Ho
  rw [read_o]
  iapply (wp_load 𝒱₀ (c : Thread nD τ) none Set.univ (m := Memref.whole cc0_stg4_0) (Finset.subset_univ _)) $$ Ho; iintro Ho
  iapply (wp_store 𝒱₀ (c : Thread nD τ) none Set.univ (m := Memref.whole cc0_stg4_0) (r := rO) (Mk := Finset.univ) (Finset.subset_univ _)) $$ Ho; iintro Ho
  rw [write_o]
  iapply (load_q c 2 1 h24 inb_S4x4x256x512_S1x1x256x512_2_1_0_0 _) $$ Hq; iintro Hq
  iapply (wp_load 𝒱₀ (c : Thread nD τ) none Set.univ (m := Memref.whole cc0_stg4_0) (Finset.subset_univ _)) $$ Ho; iintro Ho
  rw [read_o]
  iapply (wp_load 𝒱₀ (c : Thread nD τ) none Set.univ (m := Memref.whole cc0_stg4_0) (Finset.subset_univ _)) $$ Ho; iintro Ho
  iapply (wp_store 𝒱₀ (c : Thread nD τ) none Set.univ (m := Memref.whole cc0_stg4_0) (r := rO) (Mk := Finset.univ) (Finset.subset_univ _)) $$ Ho; iintro Ho
  rw [write_o]
  rw [wp_ret]; imodintro
  iapply Hk
  isplitl [Hq]; · iexact Hq
  iexact Ho

/-- Its third, and the fourth's term. -/
theorem part15_wp (c : Dev nD) (v162 : IVec S1024x16 32) (v196 : FVec F S1024x16 .f32) (v199 : FVec F S1024x256 .bf16) (v410 : FVec F S4x512 .f32) (v421 : BitVec 32) (v464 : BitVec 32) (A : (cc0_stg4_0 : Ref sig .tc).ty.Contents (Elt F)) (Kt : _ → sProp 𝕄) :
    iprop((qPts 2 h24 c fullShare (qAll m (sh 2 c)) ∗ sp c cc0_stg4_0 (A)) ∗ ((qPts 2 h24 c fullShare (qAll m (sh 2 c)) ∗ sp c cc0_stg4_0 (k0_pay24 v162 v196 v199 v410 v464 (rdQ 2 2 inb_S4x4x256x512_S1x1x256x512_2_2_0_0 (qAll m (sh 2 c))) A)) -∗ Kt (k0_pay25 v162 v196 v199 v410 v421 (rdQ 2 3 inb_S4x4x256x512_S1x1x256x512_2_3_0_0 (qAll m (sh 2 c))))))
      ⊢ wpB c (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 v162 v196 v199 v410 v421 v464) Kt := by
  unfold wpB
  simp only [k0_part15_eq_skeleton]; unfold k0_part15_skel
  simp only [semSignalWord, semWaitWord, Prog.lift, Prog.bind_op, Prog.bind_ret, Prog.pure_eq_ret, wp_deviceId]
  iintro ⟨⟨Hq, Ho⟩, Hk⟩
  iapply (load_q c 2 2 h24 inb_S4x4x256x512_S1x1x256x512_2_2_0_0 _) $$ Hq; iintro Hq
  iapply (wp_load 𝒱₀ (c : Thread nD τ) none Set.univ (m := Memref.whole cc0_stg4_0) (Finset.subset_univ _)) $$ Ho; iintro Ho
  rw [read_o]
  iapply (wp_load 𝒱₀ (c : Thread nD τ) none Set.univ (m := Memref.whole cc0_stg4_0) (Finset.subset_univ _)) $$ Ho; iintro Ho
  iapply (wp_store 𝒱₀ (c : Thread nD τ) none Set.univ (m := Memref.whole cc0_stg4_0) (r := rO) (Mk := Finset.univ) (Finset.subset_univ _)) $$ Ho; iintro Ho
  rw [write_o]
  iapply (load_q c 2 3 h24 inb_S4x4x256x512_S1x1x256x512_2_3_0_0 _) $$ Hq; iintro Hq
  rw [wp_ret]; imodintro
  iapply Hk
  isplitl [Hq]; · iexact Hq
  iexact Ho

/-- Its fourth; what comes from the next device. -/
theorem part16_wp (c : Dev nD) (v2 v136 : BitVec 32) (v501 : FVec F S1024x512 .f32) (A : (cc0_stg4_0 : Ref sig .tc).ty.Contents (Elt F)) (Kt : _ → sProp 𝕄) :
    iprop((records m K ∗ ow c (0) ∗ cred (tallyAt (dmaCell 16 (by decide) c) () NS) ∗ atPos ER (dmaCell 16 (by decide) c) 0 ∅ 0 ∗ cred (tallyAt (dmaCell 10 (by decide) c) () NQ) ∗ atPos ER (dmaCell 10 (by decide) c) 0 ∅ 0 ∗ sp c cc0_stg4_0 (A)) ∗ ((ow c (0) ∗ semVal (dmaCell 16 (by decide) c) 0 ∗ semVal (dmaCell 10 (by decide) c) 0 ∗ qPts 3 h34 c fullShare (qAll m (sh 1 c)) ∗ sPts 3 h34 c fullShare (sAll m (sh 1 c)) ∗ sp c cc0_stg4_0 (k0_pay26 v501 A)) -∗ Kt ⟨k0_pay27 (rdS 3 inb_S4x4x512_S1x4x512_3_0_0 (sAll m (sh 1 c))), Scalar.subi v2 3#32, four⟩))
      ⊢ wpB c (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 v2 v136 v501) Kt := by
  unfold wpB
  simp only [k0_part16_eq_skeleton]; unfold k0_part16_skel
  simp only [semSignalWord, semWaitWord, Prog.lift, Prog.bind_op, Prog.bind_ret, Prog.pure_eq_ret, wp_deviceId]
  iintro ⟨⟨#HR, HO, Hc16, Hat16, Hc10, Hat10, Ho⟩, Hk⟩
  iapply (wp_load 𝒱₀ (c : Thread nD τ) none Set.univ (m := Memref.whole cc0_stg4_0) (Finset.subset_univ _)) $$ Ho; iintro Ho
  rw [read_o]
  iapply (wp_load 𝒱₀ (c : Thread nD τ) none Set.univ (m := Memref.whole cc0_stg4_0) (Finset.subset_univ _)) $$ Ho; iintro Ho
  iapply (wp_store 𝒱₀ (c : Thread nD τ) none Set.univ (m := Memref.whole cc0_stg4_0) (r := rO) (Mk := Finset.univ) (Finset.subset_univ _)) $$ Ho; iintro Ho
  rw [write_o]
  iapply (wait_dma m K c 16 (by decide) (by decide) (src := sM 0 h04) (dst := sM 3 h34) NS (amount_s m 16 (by decide) (by decide) c) rfl) $$ [HO Hc16 Hat16]
  · isplitr; · iexact HR
    isplitl [Hc16]; · iexact Hc16
    isplitl [HO]; · iexact HO
    iexact Hat16
  iintro ⟨HO, Hz16, Hp16⟩
  ihave Hp16 : sPts 3 h34 c fullShare (sAll m (sh 1 c)) $$ [Hp16]; · iapply (Entails.of_eq (show dmaPay (F := F) m 16 c = sPts 3 h34 c fullShare (sAll m (sh 1 c)) from rfl)); iexact Hp16
  iapply (wait_dma m K c 10 (by decide) (by decide) (src := qM 0 h04) (dst := qM 3 h34) NQ (amount_q m 10 (by decide) (by decide) c) rfl) $$ [HO Hc10 Hat10]
  · isplitr; · iexact HR
    isplitl [Hc10]; · iexact Hc10
    isplitl [HO]; · iexact HO
    iexact Hat10
  iintro ⟨HO, Hz10, Hp10⟩
  ihave Hp10 : qPts 3 h34 c fullShare (qAll m (sh 1 c)) $$ [Hp10]; · iapply (Entails.of_eq (show dmaPay (F := F) m 10 c = qPts 3 h34 c fullShare (qAll m (sh 1 c)) from rfl)); iexact Hp10
  irename Hp16 => Hs
  iapply (load_s c 3 h34 inb_S4x4x512_S1x4x512_3_0_0 _) $$ Hs; iintro Hs
  rw [wp_ret]; imodintro
  iapply Hk
  isplitl [HO]; · iexact HO
  isplitl [Hz16]; · iexact Hz16
  isplitl [Hz10]; · iexact Hz10
  isplitl [Hp10]; · iexact Hp10
  isplitl [Hs]; · iexact Hs
  iexact Ho

/-- Its first expert. -/
theorem part17_wp (c : Dev nD) (v162 : IVec S1024x16 32) (v196 : FVec F S1024x16 .f32) (v199 : FVec F S1024x256 .bf16) (v523 : FVec F S4x512 .f32) (v524 v526 : BitVec 32) (A : (cc0_stg4_0 : Ref sig .tc).ty.Contents (Elt F)) (Kt : _ → sProp 𝕄) :
    iprop((qPts 3 h34 c fullShare (qAll m (sh 1 c)) ∗ sp c cc0_stg4_0 (A)) ∗ ((qPts 3 h34 c fullShare (qAll m (sh 1 c)) ∗ sp c cc0_stg4_0 (k0_pay28 v162 v196 v199 v523 v524 v526 (rdQ 3 0 inb_S4x4x256x512_S1x1x256x512_3_0_0_0 (qAll m (sh 1 c))) A)) -∗ Kt ⟨fixup v524 v526, k0_pay29 v162 v196 v524 v526⟩))
      ⊢ wpB c (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 v162 v196 v199 v523 v524 v526) Kt := by
  unfold wpB
  simp only [k0_part17_eq_skeleton]; unfold k0_part17_skel
  simp only [semSignalWord, semWaitWord, Prog.lift, Prog.bind_op, Prog.bind_ret, Prog.pure_eq_ret, wp_deviceId]
  iintro ⟨⟨Hq, Ho⟩, Hk⟩
  iapply (load_q c 3 0 h34 inb_S4x4x256x512_S1x1x256x512_3_0_0_0 _) $$ Hq; iintro Hq
  iapply (wp_load 𝒱₀ (c : Thread nD τ) none Set.univ (m := Memref.whole cc0_stg4_0) (Finset.subset_univ _)) $$ Ho; iintro Ho
  rw [read_o]
  iapply (wp_load 𝒱₀ (c : Thread nD τ) none Set.univ (m := Memref.whole cc0_stg4_0) (Finset.subset_univ _)) $$ Ho; iintro Ho
  iapply (wp_store 𝒱₀ (c : Thread nD τ) none Set.univ (m := Memref.whole cc0_stg4_0) (r := rO) (Mk := Finset.univ) (Finset.subset_univ _)) $$ Ho; iintro Ho
  rw [write_o]
  rw [wp_ret]; imodintro
  iapply Hk
  isplitl [Hq]; · iexact Hq
  iexact Ho

/-- Its second and third. -/
theorem part18_wp (c : Dev nD) (v162 : IVec S1024x16 32) (v196 : FVec F S1024x16 .f32) (v199 : FVec F S1024x256 .bf16) (v523 : FVec F S4x512 .f32) (v534 : BitVec 32) (v563 : FVec F S1024x1 .f32) (A : (cc0_stg4_0 : Ref sig .tc).ty.Contents (Elt F)) (Kt : _ → sProp 𝕄) :
    iprop((qPts 3 h34 c fullShare (qAll m (sh 1 c)) ∗ sp c cc0_stg4_0 (A)) ∗ ((qPts 3 h34 c fullShare (qAll m (sh 1 c)) ∗ sp c cc0_stg4_0 (k0_pay31 v162 v196 v199 v523 v534 (rdQ 3 2 inb_S4x4x256x512_S1x1x256x512_3_2_0_0 (qAll m (sh 1 c))) (k0_pay30 v199 v523 v563 (rdQ 3 1 inb_S4x4x256x512_S1x1x256x512_3_1_0_0 (qAll m (sh 1 c))) A))) -∗ Kt (Scalar.addi (Scalar.muli v534 4#32) 3#32)))
      ⊢ wpB c (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 v162 v196 v199 v523 v534 v563) Kt := by
  unfold wpB
  simp only [k0_part18_eq_skeleton]; unfold k0_part18_skel
  simp only [semSignalWord, semWaitWord, Prog.lift, Prog.bind_op, Prog.bind_ret, Prog.pure_eq_ret, wp_deviceId]
  iintro ⟨⟨Hq, Ho⟩, Hk⟩
  iapply (load_q c 3 1 h34 inb_S4x4x256x512_S1x1x256x512_3_1_0_0 _) $$ Hq; iintro Hq
  iapply (wp_load 𝒱₀ (c : Thread nD τ) none Set.univ (m := Memref.whole cc0_stg4_0) (Finset.subset_univ _)) $$ Ho; iintro Ho
  rw [read_o]
  iapply (wp_load 𝒱₀ (c : Thread nD τ) none Set.univ (m := Memref.whole cc0_stg4_0) (Finset.subset_univ _)) $$ Ho; iintro Ho
  iapply (wp_store 𝒱₀ (c : Thread nD τ) none Set.univ (m := Memref.whole cc0_stg4_0) (r := rO) (Mk := Finset.univ) (Finset.subset_univ _)) $$ Ho; iintro Ho
  rw [write_o]
  iapply (load_q c 3 2 h34 inb_S4x4x256x512_S1x1x256x512_3_2_0_0 _) $$ Hq; iintro Hq
  iapply (wp_load 𝒱₀ (c : Thread nD τ) none Set.univ (m := Memref.whole cc0_stg4_0) (Finset.subset_univ _)) $$ Ho; iintro Ho
  rw [read_o]
  iapply (wp_load 𝒱₀ (c : Thread nD τ) none Set.univ (m := Memref.whole cc0_stg4_0) (Finset.subset_univ _)) $$ Ho; iintro Ho
  iapply (wp_store 𝒱₀ (c : Thread nD τ) none Set.univ (m := Memref.whole cc0_stg4_0) (r := rO) (Mk := Finset.univ) (Finset.subset_univ _)) $$ Ho; iintro Ho
  rw [write_o]
  rw [wp_ret]; imodintro
  iapply Hk
  isplitl [Hq]; · iexact Hq
  iexact Ho

/-- Its fourth; the first copy of the scales has left. -/
theorem part19_wp (c : Dev nD) (v162 : IVec S1024x16 32) (v196 : FVec F S1024x16 .f32) (v199 : FVec F S1024x256 .bf16) (v523 : FVec F S4x512 .f32) (v599 : BitVec 32) (A : (cc0_stg4_0 : Ref sig .tc).ty.Contents (Elt F)) (Kt : _ → sProp 𝕄) :
    iprop((records m K ∗ ow c (0) ∗ cred (tallyAt (dmaCell 11 (by decide) c) () NS) ∗ atPos ER (dmaCell 11 (by decide) c) 0 ∅ 0 ∗ qPts 3 h34 c fullShare (qAll m (sh 1 c)) ∗ sp c cc0_stg4_0 (A)) ∗ ((ow c (0) ∗ semVal (dmaCell 11 (by decide) c) 0 ∗ sThird m 0 c ∗ qPts 3 h34 c fullShare (qAll m (sh 1 c)) ∗ sp c cc0_stg4_0 (k0_pay32 v162 v196 v199 v523 v599 (rdQ 3 3 inb_S4x4x256x512_S1x1x256x512_3_3_0_0 (qAll m (sh 1 c))) A)) -∗ Kt ⟨⟩))
      ⊢ wpB c (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 v162 v196 v199 v523 v599) Kt := by
  unfold wpB
  simp only [k0_part19_eq_skeleton]; unfold k0_part19_skel
  simp only [semSignalWord, semWaitWord, Prog.lift, Prog.bind_op, Prog.bind_ret, Prog.pure_eq_ret, wp_deviceId]
  iintro ⟨⟨#HR, HO, Hc11, Hat11, Hq, Ho⟩, Hk⟩
  iapply (load_q c 3 3 h34 inb_S4x4x256x512_S1x1x256x512_3_3_0_0 _) $$ Hq; iintro Hq
  iapply (wp_load 𝒱₀ (c : Thread nD τ) none Set.univ (m := Memref.whole cc0_stg4_0) (Finset.subset_univ _)) $$ Ho; iintro Ho
  rw [read_o]
  iapply (wp_load 𝒱₀ (c : Thread nD τ) none Set.univ (m := Memref.whole cc0_stg4_0) (Finset.subset_univ _)) $$ Ho; iintro Ho
  iapply (wp_store 𝒱₀ (c : Thread nD τ) none Set.univ (m := Memref.whole cc0_stg4_0) (r := rO) (Mk := Finset.univ) (Finset.subset_univ _)) $$ Ho; iintro Ho
  rw [write_o]
  iapply (wait_dma m K c 11 (by decide) (by decide) (src := sM 1 h14) (dst := sM 0 h04) NS (amount_s m 11 (by decide) (by decide) c) rfl) $$ [HO Hc11 Hat11]
  · isplitr; · iexact HR
    isplitl [Hc11]; · iexact Hc11
    isplitl [HO]; · iexact HO
    iexact Hat11
  iintro ⟨HO, Hz11, Hp11⟩
  ihave Hp11 : sThird m 0 c $$ [Hp11]; · iapply (Entails.of_eq (show dmaPay (F := F) m 11 c = sThird m 0 c from rfl)); iexact Hp11
  rw [wp_ret]; imodintro
  iapply Hk
  isplitl [HO]; · iexact HO
  isplitl [Hz11]; · iexact Hz11
  isplitl [Hp11]; · iexact Hp11
  isplitl [Hq]; · iexact Hq
  iexact Ho

/-- All the other copies but one have left. -/
theorem part20_wp (c : Dev nD)  (Kt : _ → sProp 𝕄) :
    iprop((records m K ∗ ow c (0) ∗ cred (tallyAt (dmaCell 12 (by decide) c) () NS) ∗ atPos ER (dmaCell 12 (by decide) c) 0 ∅ 0 ∗ cred (tallyAt (dmaCell 13 (by decide) c) () NS) ∗ atPos ER (dmaCell 13 (by decide) c) 0 ∅ 0 ∗ cred (tallyAt (dmaCell 5 (by decide) c) () NQ) ∗ atPos ER (dmaCell 5 (by decide) c) 0 ∅ 0 ∗ cred (tallyAt (dmaCell 6 (by decide) c) () NQ) ∗ atPos ER (dmaCell 6 (by decide) c) 0 ∅ 0) ∗ ((ow c (0) ∗ semVal (dmaCell 12 (by decide) c) 0 ∗ sThird m 1 c ∗ semVal (dmaCell 13 (by decide) c) 0 ∗ sThird m 2 c ∗ semVal (dmaCell 5 (by decide) c) 0 ∗ qThird m 0 c ∗ semVal (dmaCell 6 (by decide) c) 0 ∗ qThird m 1 c) -∗ Kt ⟨⟩))
      ⊢ wpB c (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 ) Kt := by
  unfold wpB
  simp only [k0_part20_eq_skeleton]; unfold k0_part20_skel
  simp only [semSignalWord, semWaitWord, Prog.lift, Prog.bind_op, Prog.bind_ret, Prog.pure_eq_ret, wp_deviceId]
  iintro ⟨⟨#HR, HO, Hc12, Hat12, Hc13, Hat13, Hc5, Hat5, Hc6, Hat6⟩, Hk⟩
  iapply (wait_dma m K c 12 (by decide) (by decide) (src := sM 2 h24) (dst := sM 0 h04) NS (amount_s m 12 (by decide) (by decide) c) rfl) $$ [HO Hc12 Hat12]
  · isplitr; · iexact HR
    isplitl [Hc12]; · iexact Hc12
    isplitl [HO]; · iexact HO
    iexact Hat12
  iintro ⟨HO, Hz12, Hp12⟩
  ihave Hp12 : sThird m 1 c $$ [Hp12]; · iapply (Entails.of_eq (show dmaPay (F := F) m 12 c = sThird m 1 c from rfl)); iexact Hp12
  iapply (wait_dma m K c 13 (by decide) (by decide) (src := sM 3 h34) (dst := sM 0 h04) NS (amount_s m 13 (by decide) (by decide) c) rfl) $$ [HO Hc13 Hat13]
  · isplitr; · iexact HR
    isplitl [Hc13]; · iexact Hc13
    isplitl [HO]; · iexact HO
    iexact Hat13
  iintro ⟨HO, Hz13, Hp13⟩
  ihave Hp13 : sThird m 2 c $$ [Hp13]; · iapply (Entails.of_eq (show dmaPay (F := F) m 13 c = sThird m 2 c from rfl)); iexact Hp13
  iapply (wait_dma m K c 5 (by decide) (by decide) (src := qM 1 h14) (dst := qM 0 h04) NQ (amount_q m 5 (by decide) (by decide) c) rfl) $$ [HO Hc5 Hat5]
  · isplitr; · iexact HR
    isplitl [Hc5]; · iexact Hc5
    isplitl [HO]; · iexact HO
    iexact Hat5
  iintro ⟨HO, Hz5, Hp5⟩
  ihave Hp5 : qThird m 0 c $$ [Hp5]; · iapply (Entails.of_eq (show dmaPay (F := F) m 5 c = qThird m 0 c from rfl)); iexact Hp5
  iapply (wait_dma m K c 6 (by decide) (by decide) (src := qM 2 h24) (dst := qM 0 h04) NQ (amount_q m 6 (by decide) (by decide) c) rfl) $$ [HO Hc6 Hat6]
  · isplitr; · iexact HR
    isplitl [Hc6]; · iexact Hc6
    isplitl [HO]; · iexact HO
    iexact Hat6
  iintro ⟨HO, Hz6, Hp6⟩
  ihave Hp6 : qThird m 1 c $$ [Hp6]; · iapply (Entails.of_eq (show dmaPay (F := F) m 6 c = qThird m 1 c from rfl)); iexact Hp6
  rw [wp_ret]; imodintro
  iapply Hk
  isplitl [HO]; · iexact HO
  isplitl [Hz12]; · iexact Hz12
  isplitl [Hp12]; · iexact Hp12
  isplitl [Hz13]; · iexact Hz13
  isplitl [Hp13]; · iexact Hp13
  isplitl [Hz5]; · iexact Hz5
  isplitl [Hp5]; · iexact Hp5
  isplitl [Hz6]; · iexact Hz6
  iexact Hp6

end Cert.KernelIdeal.Moe

end
-- ==== Proof.ISound.lean ====
/-
The whole body, from what the launch hands a device to its result and its closed cells.
-/
module

public import proofs.«01_k».proof.Proof.IBody

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)
variable (K : Dev nD × Fin 13 → ℕ)

/-! ## The result, one expert after another -/

/-- The routing weights by expert, and the tokens as they enter the products. -/
abbrev gates (c : Dev nD) : FVec F S1024x16 .f32 := k0_pay5 (xin m c) (rin m c) (rdI 0 inb_S1024x2_S1024x1_0_0 (iin m c)) (rdI 1 inb_S1024x2_S1024x1_0_1 (iin m c))
abbrev xb (c : Dev nD) : FVec F S1024x256 .bf16 := k0_pay6 (xin m c)

def A0 (c : Dev nD) : (cc0_stg4_0 : Ref sig .tc).ty.Contents (Elt F) := k0_pay7 (V2 c) colI (gates m c) (xin m c) (rdE 0 inb_S4x256x512_S1x256x512_0_0_0 (ein m c))
def A1 (c : Dev nD) : (cc0_stg4_0 : Ref sig .tc).ty.Contents (Elt F) := k0_pay9 (xb m c) (k0_pay8 (V2 c) colI (gates m c)) (rdE 1 inb_S4x256x512_S1x256x512_1_0_0 (ein m c)) (A0 m c)
def A2 (c : Dev nD) : (cc0_stg4_0 : Ref sig .tc).ty.Contents (Elt F) := k0_pay10 colI (gates m c) (xb m c) (mw (V2 c) 0#32) (rdE 2 inb_S4x256x512_S1x256x512_2_0_0 (ein m c)) (A1 m c)
def A3 (c : Dev nD) : (cc0_stg4_0 : Ref sig .tc).ty.Contents (Elt F) := k0_pay12 (xb m c) (k0_pay11 colI (gates m c) (mw (V2 c) 0#32)) (rdE 3 inb_S4x256x512_S1x256x512_3_0_0 (ein m c)) (A2 m c)
def A4 (c : Dev nD) : (cc0_stg4_0 : Ref sig .tc).ty.Contents (Elt F) := k0_pay14 (V2 c) colI (gates m c) (xb m c) (rdS 1 inb_S4x4x512_S1x4x512_1_0_0 (sAll m (sh 3 c))) (rdQ 1 0 inb_S4x4x256x512_S1x1x256x512_1_0_0_0 (qAll m (sh 3 c))) (A3 m c)
def A5 (c : Dev nD) : (cc0_stg4_0 : Ref sig .tc).ty.Contents (Elt F) := k0_pay15 colI (gates m c) (xb m c) (k0_pay13 (rdS 1 inb_S4x4x512_S1x4x512_1_0_0 (sAll m (sh 3 c)))) (mw (V2 c) 1#32) (rdQ 1 1 inb_S4x4x256x512_S1x1x256x512_1_1_0_0 (qAll m (sh 3 c))) (A4 m c)
def A6 (c : Dev nD) : (cc0_stg4_0 : Ref sig .tc).ty.Contents (Elt F) := k0_pay18 (k0_pay16 colI (gates m c) (xb m c) (mw (V2 c) 1#32) (rdQ 1 2 inb_S4x4x256x512_S1x1x256x512_1_2_0_0 (qAll m (sh 3 c)))) (k0_pay17 (k0_pay13 (rdS 1 inb_S4x4x512_S1x4x512_1_0_0 (sAll m (sh 3 c))))) (A5 m c)
def A7 (c : Dev nD) : (cc0_stg4_0 : Ref sig .tc).ty.Contents (Elt F) := k0_pay19 colI (gates m c) (xb m c) (k0_pay13 (rdS 1 inb_S4x4x512_S1x4x512_1_0_0 (sAll m (sh 3 c)))) (mw (V2 c) 1#32) (rdQ 1 3 inb_S4x4x256x512_S1x1x256x512_1_3_0_0 (qAll m (sh 3 c))) (A6 m c)
def A8 (c : Dev nD) : (cc0_stg4_0 : Ref sig .tc).ty.Contents (Elt F) := k0_pay22 (xb m c) (k0_pay20 (rdS 2 inb_S4x4x512_S1x4x512_2_0_0 (sAll m (sh 2 c)))) (k0_pay21 (V2 c) colI (gates m c)) (rdQ 2 0 inb_S4x4x256x512_S1x1x256x512_2_0_0_0 (qAll m (sh 2 c))) (A7 m c)
def A9 (c : Dev nD) : (cc0_stg4_0 : Ref sig .tc).ty.Contents (Elt F) := k0_pay23 colI (gates m c) (xb m c) (k0_pay20 (rdS 2 inb_S4x4x512_S1x4x512_2_0_0 (sAll m (sh 2 c)))) (mw (V2 c) 2#32) (rdQ 2 1 inb_S4x4x256x512_S1x1x256x512_2_1_0_0 (qAll m (sh 2 c))) (A8 m c)
def A10 (c : Dev nD) : (cc0_stg4_0 : Ref sig .tc).ty.Contents (Elt F) := k0_pay24 colI (gates m c) (xb m c) (k0_pay20 (rdS 2 inb_S4x4x512_S1x4x512_2_0_0 (sAll m (sh 2 c)))) (Scalar.muli (mw (V2 c) 2#32) 4#32) (rdQ 2 2 inb_S4x4x256x512_S1x1x256x512_2_2_0_0 (qAll m (sh 2 c))) (A9 m c)
def A11 (c : Dev nD) : (cc0_stg4_0 : Ref sig .tc).ty.Contents (Elt F) := k0_pay26 (k0_pay25 colI (gates m c) (xb m c) (k0_pay20 (rdS 2 inb_S4x4x512_S1x4x512_2_0_0 (sAll m (sh 2 c)))) (mw (V2 c) 2#32) (rdQ 2 3 inb_S4x4x256x512_S1x1x256x512_2_3_0_0 (qAll m (sh 2 c)))) (A10 m c)
def A12 (c : Dev nD) : (cc0_stg4_0 : Ref sig .tc).ty.Contents (Elt F) := k0_pay28 colI (gates m c) (xb m c) (k0_pay27 (rdS 3 inb_S4x4x512_S1x4x512_3_0_0 (sAll m (sh 1 c)))) (Scalar.subi (V2 c) 3#32) four (rdQ 3 0 inb_S4x4x256x512_S1x1x256x512_3_0_0_0 (qAll m (sh 1 c))) (A11 m c)
def A13 (c : Dev nD) : (cc0_stg4_0 : Ref sig .tc).ty.Contents (Elt F) := k0_pay30 (xb m c) (k0_pay27 (rdS 3 inb_S4x4x512_S1x4x512_3_0_0 (sAll m (sh 1 c)))) (k0_pay29 colI (gates m c) (Scalar.subi (V2 c) 3#32) four) (rdQ 3 1 inb_S4x4x256x512_S1x1x256x512_3_1_0_0 (qAll m (sh 1 c))) (A12 m c)
def A14 (c : Dev nD) : (cc0_stg4_0 : Ref sig .tc).ty.Contents (Elt F) := k0_pay31 colI (gates m c) (xb m c) (k0_pay27 (rdS 3 inb_S4x4x512_S1x4x512_3_0_0 (sAll m (sh 1 c)))) (fixup (Scalar.subi (V2 c) 3#32) four) (rdQ 3 2 inb_S4x4x256x512_S1x1x256x512_3_2_0_0 (qAll m (sh 1 c))) (A13 m c)
def A15 (c : Dev nD) : (cc0_stg4_0 : Ref sig .tc).ty.Contents (Elt F) := k0_pay32 colI (gates m c) (xb m c) (k0_pay27 (rdS 3 inb_S4x4x512_S1x4x512_3_0_0 (sAll m (sh 1 c)))) (Scalar.addi (Scalar.muli (fixup (Scalar.subi (V2 c) 3#32) four) 4#32) 3#32) (rdQ 3 3 inb_S4x4x256x512_S1x1x256x512_3_3_0_0 (qAll m (sh 1 c))) (A14 m c)

/-! ## What a device starts from and what it ends with -/

/-- Its positions at its own cells, -/
def ats (c : Dev nD) : sProp 𝕄 := iprop(atPos ER (barCell c) 0 ∅ 0 ∗ atPos ER (dmaCell 5 (by decide) c) 0 ∅ 0 ∗ atPos ER (dmaCell 6 (by decide) c) 0 ∅ 0 ∗ atPos ER (dmaCell 7 (by decide) c) 0 ∅ 0 ∗ atPos ER (dmaCell 8 (by decide) c) 0 ∅ 0 ∗ atPos ER (dmaCell 9 (by decide) c) 0 ∅ 0 ∗ atPos ER (dmaCell 10 (by decide) c) 0 ∅ 0 ∗ atPos ER (dmaCell 11 (by decide) c) 0 ∅ 0 ∗ atPos ER (dmaCell 12 (by decide) c) 0 ∅ 0 ∗ atPos ER (dmaCell 13 (by decide) c) 0 ∅ 0 ∗ atPos ER (dmaCell 14 (by decide) c) 0 ∅ 0 ∗ atPos ER (dmaCell 15 (by decide) c) 0 ∅ 0 ∗ atPos ER (dmaCell 16 (by decide) c) 0 ∅ 0)
/-- the tokens of the duties it pays, -/
def payToks (c : Dev nD) : sProp 𝕄 := iprop(dutyTok ER (barCell (sh 1 c)) 0 (2 : Fin 3) ∗ dutyTok ER (barCell (sh 2 c)) 0 (1 : Fin 3) ∗ dutyTok ER (barCell (sh 3 c)) 0 (0 : Fin 3) ∗ dutyTok ER (dmaCell 5 (by decide) c) 0 (0 : Fin 3) ∗ dutyTok ER (dmaCell 6 (by decide) c) 0 (0 : Fin 3) ∗ dutyTok ER (dmaCell 7 (by decide) c) 0 (0 : Fin 3) ∗ dutyTok ER (dmaCell 11 (by decide) c) 0 (0 : Fin 3) ∗ dutyTok ER (dmaCell 12 (by decide) c) 0 (0 : Fin 3) ∗ dutyTok ER (dmaCell 13 (by decide) c) 0 (0 : Fin 3) ∗ dutyTok ER (dmaCell 8 (by decide) (sh 1 c)) 0 (0 : Fin 3) ∗ dutyTok ER (dmaCell 9 (by decide) (sh 2 c)) 0 (0 : Fin 3) ∗ dutyTok ER (dmaCell 10 (by decide) (sh 3 c)) 0 (0 : Fin 3) ∗ dutyTok ER (dmaCell 14 (by decide) (sh 1 c)) 0 (0 : Fin 3) ∗ dutyTok ER (dmaCell 15 (by decide) (sh 2 c)) 0 (0 : Fin 3) ∗ dutyTok ER (dmaCell 16 (by decide) (sh 3 c)) 0 (0 : Fin 3))
def ghost (c : Dev nD) : sProp 𝕄 := iprop(records m K ∗ ats c ∗ payToks c)
/-- and what it may wait for from the others. -/
def creds (c : Dev nD) : sProp 𝕄 := iprop(cred (tallyAt (barCell c) () 3) ∗ cred (tallyAt (dmaCell 8 (by decide) c) () NQ) ∗ cred (tallyAt (dmaCell 9 (by decide) c) () NQ) ∗ cred (tallyAt (dmaCell 10 (by decide) c) () NQ) ∗ cred (tallyAt (dmaCell 14 (by decide) c) () NS) ∗ cred (tallyAt (dmaCell 15 (by decide) c) () NS) ∗ cred (tallyAt (dmaCell 16 (by decide) c) () NS))
def scr (c : Dev nD) : sProp 𝕄 :=
  iprop((∃ f, (c : Thread nD τ).loc cc0_scratch0 ↦{fullShare} f) ∗ ∃ f, (c : Thread nD τ).loc cc0_scratch1 ↦{fullShare} f)
/-- Its own cells closed. -/
def zeros (c : Dev nD) : sProp 𝕄 := iprop(semVal (dmaCell 5 (by decide) c) 0 ∗ semVal (dmaCell 6 (by decide) c) 0 ∗ semVal (dmaCell 7 (by decide) c) 0 ∗ semVal (dmaCell 8 (by decide) c) 0 ∗ semVal (dmaCell 9 (by decide) c) 0 ∗ semVal (dmaCell 10 (by decide) c) 0 ∗ semVal (dmaCell 11 (by decide) c) 0 ∗ semVal (dmaCell 12 (by decide) c) 0 ∗ semVal (dmaCell 13 (by decide) c) 0 ∗ semVal (dmaCell 14 (by decide) c) 0 ∗ semVal (dmaCell 15 (by decide) c) 0 ∗ semVal (dmaCell 16 (by decide) c) 0)

theorem q_deal (c : Dev nD) : (qPts 0 h04 c fullShare (qAll m c) : sProp 𝕄) ⊢ iprop(qThird m 0 c ∗ qThird m 1 c ∗ qThird m 2 c) := (q_thirds c _).1
theorem s_deal (c : Dev nD) : (sPts 0 h04 c fullShare (sAll m c) : sProp 𝕄) ⊢ iprop(sThird m 0 c ∗ sThird m 1 c ∗ sThird m 2 c) := (s_thirds c _).1
theorem q_collect (c : Dev nD) : iprop(qThird m 0 c ∗ qThird m 1 c ∗ qThird m 2 c) ⊢ (qPts 0 h04 c fullShare (qAll m c) : sProp 𝕄) := (q_thirds c _).2
theorem s_collect (c : Dev nD) : iprop(sThird m 0 c ∗ sThird m 1 c ∗ sThird m 2 c) ⊢ (sPts 0 h04 c fullShare (sAll m c) : sProp 𝕄) := (s_thirds c _).2

set_option maxHeartbeats 4000000 in
theorem sound_body (c : Dev nD) (O : (cc0_stg4_0 : Ref sig .tc).ty.Contents (Elt F)) (Kt : PUnit → sProp 𝕄) :
    iprop(((ghost m K c ∗ creds c ∗ levAts L lv ∗ scr c) ∗ ow c (O₀ c) ∗ sp c cc0_stg0_0 (xin m c) ∗ sp c cc0_stg1_0 (rin m c) ∗ sp c cc0_stg2_0 (iin m c)
        ∗ sp c cc0_stg3_0 (ein m c) ∗ sp c cc0_stg4_0 O)
        ∗ ((ow c 0 ∗ sp c cc0_stg0_0 (xin m c) ∗ sp c cc0_stg1_0 (rin m c) ∗ sp c cc0_stg2_0 (iin m c) ∗ sp c cc0_stg3_0 (ein m c) ∗ sp c cc0_stg4_0 (A15 m c) ∗ semVal (barCell c) 0 ∗ zeros c ∗ scr c) -∗ Kt ⟨⟩))
      ⊢ wpB c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5) Kt := by
  unfold wpB
  simp only [cc0_body_eq_skeleton]; unfold cc0_body_skel
  unfold ghost ats payToks creds
  iintro ⟨⟨⟨⟨#HR, ⟨Hatb, Hat5, Hat6, Hat7, Hat8, Hat9, Hat10, Hat11, Hat12, Hat13, Hat14, Hat15, Hat16⟩, Hb1, Hb2, Hb3, Ht5, Ht6, Ht7, Ht11, Ht12, Ht13, Ht8, Ht9, Ht10, Ht14, Ht15, Ht16⟩, ⟨Hcb, Hc8, Hc9, Hc10, Hc14, Hc15, Hc16⟩, #Hlev, Hscr⟩, HO, Hx, Hr, Hi, He, Ho⟩, Hk⟩
  unfold scr
  icases Hscr with ⟨⟨%fq, Hq⟩, ⟨%fs, Hs⟩⟩
  ihave Hq := (Entails.of_eq (q_split c fq)) $$ Hq; icases Hq with ⟨Hq0, Hq1, Hq2, Hq3⟩
  ihave Hs := (Entails.of_eq (s_split c fs)) $$ Hs; icases Hs with ⟨Hs0, Hs1, Hs2, Hs3⟩
  ihave Hp1 : slotPay 1 h14 c $$ [Hq1 Hs1]
  · unfold slotPay; isplitl [Hq1]
    · iexists fq; iexact Hq1
    iexists fs; iexact Hs1
  ihave Hp2 : slotPay 2 h24 c $$ [Hq2 Hs2]
  · unfold slotPay; isplitl [Hq2]
    · iexists fq; iexact Hq2
    iexists fs; iexact Hs2
  ihave Hp3 : slotPay 3 h34 c $$ [Hq3 Hs3]
  · unfold slotPay; isplitl [Hq3]
    · iexists fq; iexact Hq3
    iexists fs; iexact Hs3
  rw [wp_bind]
  iapply (part1_wp m K c _)
  isplitl [HO Hb1 Hb2 Hp3 Hp2]
  · isplitr; · iexact HR
    isplitl [HO]; · iexact HO
    isplitl [Hb1]; · iexact Hb1
    isplitl [Hb2]; · iexact Hb2
    isplitl [Hp3]; · iexact Hp3
    iexact Hp2
  iintro %v30 %c4 %v31 HO
  try dsimp only
  rw [wp_bind]
  iapply (part2_wp m K c _ rfl _ _ _ _ _ _)
  isplitl [HO Hb3 Hp1 He Hq0 Hs0 Hcb Hatb]
  · isplitr; · iexact HR
    isplitr; · iexact Hlev
    isplitl [HO]; · iexact HO
    isplitl [Hb3]; · iexact Hb3
    isplitl [Hp1]; · iexact Hp1
    isplitl [He]; · iexact He
    isplitl [Hq0]; · iexact Hq0
    isplitl [Hs0]; · iexact Hs0
    isplitl [Hcb]; · iexact Hcb
    iexact Hatb
  iintro ⟨HO, He, Hq0, Hs0, Hzb, H1, H2, H3⟩
  try dsimp only
  ihave Hq0 := (q_deal m c) $$ Hq0; icases Hq0 with ⟨Hqa, Hqb, Hqc⟩
  ihave Hs0 := (s_deal m c) $$ Hs0; icases Hs0 with ⟨Hsa, Hsb, Hsc⟩
  unfold slotPay
  icases H1 with ⟨⟨%fq1, Hdq1⟩, ⟨%fs1, Hds1⟩⟩
  icases H2 with ⟨⟨%fq2, Hdq2⟩, ⟨%fs2, Hds2⟩⟩
  icases H3 with ⟨⟨%fq3, Hdq3⟩, ⟨%fs3, Hds3⟩⟩
  rw [wp_bind]
  iapply (part3_wp m K c _ _ fs1 _)
  isplitl [HO Hsa Hds1 Ht11 Ht14]
  · isplitr; · iexact HR
    isplitl [HO]; · iexact HO
    isplitl [Hsa]; · iexact Hsa
    isplitl [Hds1]; · iexact Hds1
    isplitl [Ht11]; · iexact Ht11
    iexact Ht14
  iintro %v74 ⟨HO, Hc11⟩
  try dsimp only
  rw [wp_bind]
  iapply (part4_wp m K c _ fq1 fs2 _)
  isplitl [HO Hqa Hdq1 Ht5 Ht8 Hsb Hds2 Ht12 Ht15]
  · isplitr; · iexact HR
    isplitl [HO]; · iexact HO
    isplitl [Hqa]; · iexact Hqa
    isplitl [Hdq1]; · iexact Hdq1
    isplitl [Ht5]; · iexact Ht5
    isplitl [Ht8]; · iexact Ht8
    isplitl [Hsb]; · iexact Hsb
    isplitl [Hds2]; · iexact Hds2
    isplitl [Ht12]; · iexact Ht12
    iexact Ht15
  iintro %v105 ⟨HO, Hc5, Hc12⟩
  try dsimp only
  rw [wp_bind]
  iapply (part5_wp m K c _ fq2 fs3 _)
  isplitl [HO Hqb Hdq2 Ht6 Ht9 Hsc Hds3 Ht13 Ht16]
  · isplitr; · iexact HR
    isplitl [HO]; · iexact HO
    isplitl [Hqb]; · iexact Hqb
    isplitl [Hdq2]; · iexact Hdq2
    isplitl [Ht6]; · iexact Ht6
    isplitl [Ht9]; · iexact Ht9
    isplitl [Hsc]; · iexact Hsc
    isplitl [Hds3]; · iexact Hds3
    isplitl [Ht13]; · iexact Ht13
    iexact Ht16
  iintro %v136 ⟨HO, Hc6, Hc13⟩
  try dsimp only
  rw [wp_bind]
  iapply (part6_wp m K c fq3 _ _ _ _)
  isplitl [HO Hqc Hdq3 Ht7 Ht10 Hx Hr Hi]
  · isplitr; · iexact HR
    isplitl [HO]; · iexact HO
    isplitl [Hqc]; · iexact Hqc
    isplitl [Hdq3]; · iexact Hdq3
    isplitl [Ht7]; · iexact Ht7
    isplitl [Ht10]; · iexact Ht10
    isplitl [Hx]; · iexact Hx
    isplitl [Hr]; · iexact Hr
    iexact Hi
  iintro ⟨HO, Hc7, Hx, Hr, Hi⟩
  try dsimp only
  rw [wp_bind]
  iapply (part7_wp c _ _ _ _ _ _ _)
  isplitl [Hx He Ho]
  · isplitl [Hx]; · iexact Hx
    isplitl [He]; · iexact He
    iexact Ho
  iintro ⟨Hx, He, Ho⟩
  try dsimp only
  ihave Ho : sp c cc0_stg4_0 (A0 m c) $$ [Ho]; · unfold A0; iexact Ho
  rw [wp_bind]
  iapply (part8_wp c _ _ _ _ _ _ _ _)
  isplitl [He Ho]
  · isplitl [He]; · iexact He
    iexact Ho
  iintro ⟨He, Ho⟩
  try dsimp only
  ihave Ho : sp c cc0_stg4_0 (A2 m c) $$ [Ho]; · unfold A2 A1; iexact Ho
  rw [wp_bind]
  iapply (part9_wp m K c _ _ _ _ _ _)
  isplitl [HO Hc14 Hat14 He Ho]
  · isplitr; · iexact HR
    isplitl [HO]; · iexact HO
    isplitl [Hc14]; · iexact Hc14
    isplitl [Hat14]; · iexact Hat14
    isplitl [He]; · iexact He
    iexact Ho
  iintro ⟨HO, Hz14, Hp14, He, Ho⟩
  try dsimp only
  ihave Ho : sp c cc0_stg4_0 (A3 m c) $$ [Ho]; · unfold A3; iexact Ho
  rw [wp_bind]
  iapply (part10_wp m K c _ _ _ _ _ _)
  isplitl [HO Hc8 Hat8 Hp14 Ho]
  · isplitr; · iexact HR
    isplitl [HO]; · iexact HO
    isplitl [Hc8]; · iexact Hc8
    isplitl [Hat8]; · iexact Hat8
    isplitl [Hp14]; · iexact Hp14
    iexact Ho
  iintro ⟨HO, Hz8, Hp8, Hp14, Ho⟩
  try dsimp only
  ihave Ho : sp c cc0_stg4_0 (A4 m c) $$ [Ho]; · unfold A4; iexact Ho
  rw [wp_bind]
  iapply (part11_wp m c _ _ _ _ _ _ _)
  isplitl [Hp8 Ho]
  · isplitl [Hp8]; · iexact Hp8
    iexact Ho
  iintro ⟨Hp8, Ho⟩
  try dsimp only
  ihave Ho : sp c cc0_stg4_0 (A5 m c) $$ [Ho]; · unfold A5; iexact Ho
  rw [wp_bind]
  iapply (part12_wp m c _ _ _ _ _ _ _ _ _ _)
  isplitl [Hp8 Ho]
  · isplitl [Hp8]; · iexact Hp8
    iexact Ho
  iintro ⟨Hp8, Ho⟩
  try dsimp only
  ihave Ho : sp c cc0_stg4_0 (A7 m c) $$ [Ho]; · unfold A7 A6; iexact Ho
  rw [wp_bind]
  iapply (part13_wp m K c _ _ _ _ _)
  isplitl [HO Hc15 Hat15 Hc9 Hat9]
  · isplitr; · iexact HR
    isplitl [HO]; · iexact HO
    isplitl [Hc15]; · iexact Hc15
    isplitl [Hat15]; · iexact Hat15
    isplitl [Hc9]; · iexact Hc9
    iexact Hat9
  iintro ⟨HO, Hz15, Hz9, Hp9, Hp15⟩
  try dsimp only
  rw [wp_bind]
  iapply (part14_wp m c _ _ _ _ _ _ _ _)
  isplitl [Hp9 Ho]
  · isplitl [Hp9]; · iexact Hp9
    iexact Ho
  iintro ⟨Hp9, Ho⟩
  try dsimp only
  ihave Ho : sp c cc0_stg4_0 (A9 m c) $$ [Ho]; · unfold A9 A8; iexact Ho
  rw [wp_bind]
  iapply (part15_wp m c _ _ _ _ _ _ _ _)
  isplitl [Hp9 Ho]
  · isplitl [Hp9]; · iexact Hp9
    iexact Ho
  iintro ⟨Hp9, Ho⟩
  try dsimp only
  ihave Ho : sp c cc0_stg4_0 (A10 m c) $$ [Ho]; · unfold A10; iexact Ho
  rw [wp_bind]
  iapply (part16_wp m K c _ _ _ _ _)
  isplitl [HO Hc16 Hat16 Hc10 Hat10 Ho]
  · isplitr; · iexact HR
    isplitl [HO]; · iexact HO
    isplitl [Hc16]; · iexact Hc16
    isplitl [Hat16]; · iexact Hat16
    isplitl [Hc10]; · iexact Hc10
    isplitl [Hat10]; · iexact Hat10
    iexact Ho
  iintro ⟨HO, Hz16, Hz10, Hp10, Hp16, Ho⟩
  try dsimp only
  ihave Ho : sp c cc0_stg4_0 (A11 m c) $$ [Ho]; · unfold A11; iexact Ho
  rw [wp_bind]
  iapply (part17_wp m c _ _ _ _ _ _ _ _)
  isplitl [Hp10 Ho]
  · isplitl [Hp10]; · iexact Hp10
    iexact Ho
  iintro ⟨Hp10, Ho⟩
  try dsimp only
  ihave Ho : sp c cc0_stg4_0 (A12 m c) $$ [Ho]; · unfold A12; iexact Ho
  rw [wp_bind]
  iapply (part18_wp m c _ _ _ _ _ _ _ _)
  isplitl [Hp10 Ho]
  · isplitl [Hp10]; · iexact Hp10
    iexact Ho
  iintro ⟨Hp10, Ho⟩
  try dsimp only
  ihave Ho : sp c cc0_stg4_0 (A14 m c) $$ [Ho]; · unfold A14 A13; iexact Ho
  rw [wp_bind]
  iapply (part19_wp m K c _ _ _ _ _ _ _)
  isplitl [HO Hc11 Hat11 Hp10 Ho]
  · isplitr; · iexact HR
    isplitl [HO]; · iexact HO
    isplitl [Hc11]; · iexact Hc11
    isplitl [Hat11]; · iexact Hat11
    isplitl [Hp10]; · iexact Hp10
    iexact Ho
  iintro ⟨HO, Hz11, Hp11, Hp10, Ho⟩
  try dsimp only
  ihave Ho : sp c cc0_stg4_0 (A15 m c) $$ [Ho]; · unfold A15; iexact Ho
  rw [wp_bind]
  iapply (part20_wp m K c _)
  isplitl [HO Hc12 Hat12 Hc13 Hat13 Hc5 Hat5 Hc6 Hat6]
  · isplitr; · iexact HR
    isplitl [HO]; · iexact HO
    isplitl [Hc12]; · iexact Hc12
    isplitl [Hat12]; · iexact Hat12
    isplitl [Hc13]; · iexact Hc13
    isplitl [Hat13]; · iexact Hat13
    isplitl [Hc5]; · iexact Hc5
    isplitl [Hat5]; · iexact Hat5
    isplitl [Hc6]; · iexact Hc6
    iexact Hat6
  iintro ⟨HO, Hz12, Hp12, Hz13, Hp13, Hz5, Hp5, Hz6, Hp6⟩
  try dsimp only
  simp only [Prog.lift, Prog.bind_op, Prog.bind_ret, Prog.pure_eq_ret]
  iapply (wait_dma m K c 7 (by decide) (by decide) (src := qM 3 h34) (dst := qM 0 h04) NQ (amount_q m 7 (by decide) (by decide) c) rfl) $$ [HO Hc7 Hat7]
  · isplitr; · iexact HR
    isplitl [Hc7]; · iexact Hc7
    isplitl [HO]; · iexact HO
    iexact Hat7
  iintro ⟨HO, Hz7, Hp7⟩
  ihave Hp7 : qThird m 2 c $$ [Hp7]; · iapply (Entails.of_eq (show dmaPay (F := F) m 7 c = qThird m 2 c from rfl)); iexact Hp7
  rw [wp_ret]; imodintro
  iapply Hk
  isplitl [HO]; · iexact HO
  isplitl [Hx]; · iexact Hx
  isplitl [Hr]; · iexact Hr
  isplitl [Hi]; · iexact Hi
  isplitl [He]; · iexact He
  isplitl [Ho]; · iexact Ho
  isplitl [Hzb]; · iexact Hzb
  isplitl [Hz5 Hz6 Hz7 Hz8 Hz9 Hz10 Hz11 Hz12 Hz13 Hz14 Hz15 Hz16]
  · unfold zeros
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    isplitl [Hz14]; · iexact Hz14
    isplitl [Hz15]; · iexact Hz15
    iexact Hz16
  ihave Hq0 := (q_collect m c) $$ [Hp5 Hp6 Hp7]
  · isplitl [Hp5]; · iexact Hp5
    isplitl [Hp6]; · iexact Hp6
    iexact Hp7
  ihave Hs0 := (s_collect m c) $$ [Hp11 Hp12 Hp13]
  · isplitl [Hp11]; · iexact Hp11
    isplitl [Hp12]; · iexact Hp12
    iexact Hp13
  isplitl [Hq0 Hp8 Hp9 Hp10]
  · iapply (q_join c (qAll m c) (qAll m (sh 3 c)) (qAll m (sh 2 c)) (qAll m (sh 1 c)))
    isplitl [Hq0]; · iexact Hq0
    isplitl [Hp8]; · iexact Hp8
    isplitl [Hp9]; · iexact Hp9
    iexact Hp10
  iapply (s_join c (sAll m c) (sAll m (sh 3 c)) (sAll m (sh 2 c)) (sAll m (sh 1 c)))
  isplitl [Hs0]; · iexact Hs0
  isplitl [Hp14]; · iexact Hp14
  isplitl [Hp15]; · iexact Hp15
  iexact Hp16

end Cert.KernelIdeal.Moe

end
-- ==== Proof.IRun.lean ====
/-
The launch: the protocol's cells dealt to the devices, and the run of the whole program on the mesh.
-/
module

public import proofs.«01_k».proof.Proof.ISound
public import Idealize.ShloMosaic.Lib.Pipeline.CollectiveSegs

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The pipeline's data -/

/-- What a device starts from, -/
def start (c : Dev nD) : sProp 𝕄 := iprop((∃ K, ghost m K c) ∗ creds c ∗ levAts L lv)
def Φ₀ (c : Dev nD) : sProp 𝕄 := iprop(start m c ∗ scr c)
/-- and what it ends with. -/
def Φ₁ (c : Dev nD) : sProp 𝕄 := iprop(semVal (barCell c) 0 ∗ zeros c ∗ scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
    | ⟨1, _⟩ => rin m c
    | ⟨2, _⟩ => iin m c
    | ⟨3, _⟩ => ein m c
    | ⟨4, _⟩ => A15 m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))
def bodyPost (c : Dev nD) : sProp 𝕄 :=
  iprop(Φ₁ c ∗ (dats m ρ 0 c).owesAt () t0_0.succ ∗ stg c cc0_stg0_0 (xin m c) ∗ stg c cc0_stg1_0 (rin m c) ∗ stg c cc0_stg2_0 (iin m c)
    ∗ stg c cc0_stg3_0 (ein m c) ∗ stg c cc0_stg4_0 (A15 m c))

theorem fetch_0 : (cfg0.win (0 : Fin 5)).fetch t0_0 = true := rfl
theorem fetch_1 : (cfg0.win (1 : Fin 5)).fetch t0_0 = true := rfl
theorem fetch_2 : (cfg0.win (2 : Fin 5)).fetch t0_0 = true := rfl
theorem fetch_3 : (cfg0.win (3 : Fin 5)).fetch t0_0 = true := rfl

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5) (fun _ => bodyPost m ρ c)
  unfold bodyPre Φ₀ start
  iintro ⟨⟨⟨⟨%K, Hg⟩, Hcr, Hlev⟩, Hscr⟩, Hw, ⟨%d0, %g0, %hg0, Hx⟩, ⟨%d1, %g1, %hg1, Hr⟩, ⟨%d2, %g2, %hg2, Hi⟩, ⟨%d3, %g3, %hg3, He⟩, ⟨%d4, %g4, %hg4, Ho⟩⟩
  have h0 : g0 = xin m c := by rw [hg0]; unfold Dat.before; rw [if_pos fetch_0]; rfl
  have h1 : g1 = rin m c := by rw [hg1]; unfold Dat.before; rw [if_pos fetch_1]; rfl
  have h2 : g2 = iin m c := by rw [hg2]; unfold Dat.before; rw [if_pos fetch_2]; rfl
  have h3 : g3 = ein m c := by rw [hg3]; unfold Dat.before; rw [if_pos fetch_3]; rfl
  subst h0 h1 h2 h3
  iapply (sound_body m K c g4 fun _ => bodyPost m ρ c)
  isplitl [Hg Hcr Hlev Hscr Hw Hx Hr Hi He Ho]
  · isplitl [Hg Hcr Hlev Hscr]
    · isplitl [Hg]; · iexact Hg
      isplitl [Hcr]; · iexact Hcr
      isplitl [Hlev]; · iexact Hlev
      iexact Hscr
    isplitl [Hw]
    · unfold Dat.owesAt Pipeline.owesWithin
      icases Hw with ⟨%W, %hW, HO⟩
      unfold ow; iexists W; iexact HO
    isplitl [Hx]; · iexact Hx
    isplitl [Hr]; · iexact Hr
    isplitl [Hi]; · iexact Hi
    isplitl [He]; · iexact He
    iexact Ho
  iintro ⟨HO, Hx, Hr, Hi, He, Ho, Hz, Hzs, Hscr⟩
  unfold bodyPost Φ₁
  isplitl [Hz Hzs Hscr]
  · isplitl [Hz]; · iexact Hz
    isplitl [Hzs]; · iexact Hzs
    iexact Hscr
  isplitl [HO]
  · unfold Dat.owesAt Pipeline.owesWithin ow
    icases HO with ⟨%W, HO⟩
    iexists W; isplitr; · (ipureintro; exact fun _ _ => Or.inl trivial)
    iexact HO
  isplitl [Hx]; · (iexists _; isplitr; · (ipureintro; rfl)); iexact Hx
  isplitl [Hr]; · (iexists _; isplitr; · (ipureintro; rfl)); iexact Hr
  isplitl [Hi]; · (iexists _; isplitr; · (ipureintro; rfl)); iexact Hi
  isplitl [He]; · (iexists _; isplitr; · (ipureintro; rfl)); iexact He
  iexists _; isplitr; · (ipureintro; rfl)
  iexact Ho

/-! ## Cells and tokens at launch -/

theorem ownSemFacts : Pipeline.OwnSemFacts cfg0.spec osem := by decide
theorem share_eq (c : Dev nD) (w : Fin cfg0.W) : (dats m ρ 0 c).share w = fullShare := by unfold Dat.share; split <;> rfl

theorem kcell_injective : Function.Injective (kcell : Dev nD × Fin 13 → GSem nD τ sig) := by
  rintro ⟨c, k⟩ ⟨c', k'⟩ h
  have h1 : c = c' := congrArg (fun g : GSem nD τ sig => g.1.1) h
  subst h1
  have h2 : k = k' := csem_inj (congrArg Prod.snd h)
  subst h2; rfl
def cells : Finset (GSem nD τ sig) := Finset.univ.map ⟨kcell, kcell_injective⟩

/-- The fifteen tokens of a device's own cells: its barrier's three duties, then one of each transfer cell. -/
abbrev tcell (j : Fin 15) : Fin 13 := ⟨j.val - 2, by omega⟩
abbrev tduty (j : Fin 15) : Fin 3 := if h : j.val < 3 then ⟨j.val, h⟩ else 0
abbrev tokOf (cj : Dev nD × Fin 15) : GSem nD τ sig × ℕ × Fin 3 := (kcell (cj.1, tcell cj.2), 0, tduty cj.2)
theorem tok_inj : Function.Injective (fun j : Fin 15 => (tcell j, tduty j)) := by decide
theorem tokOf_injective : Function.Injective (tokOf : Dev nD × Fin 15 → GSem nD τ sig × ℕ × Fin 3) := by
  rintro ⟨c, j⟩ ⟨c', j'⟩ h
  have h1 := kcell_injective (congrArg Prod.fst h)
  have h2 : tduty j = tduty j' := congrArg (fun x => x.2.2) h
  have h3 : tcell j = tcell j' := congrArg Prod.snd h1
  have h4 : c = c' := congrArg Prod.fst h1
  have h5 : j = j' := tok_inj (Prod.ext h3 h2)
  subst h4; subst h5; rfl
def cellToks : Finset (GSem nD τ sig × ℕ × Fin 3) := Finset.univ.map ⟨tokOf, tokOf_injective⟩

def u₀ : UU := (initOf (Pipeline.cells cfgs cellOf_inj) (Pipeline.launchToks cfgs cellOf_inj), initOf cells cellToks)

def toks (c : Dev nD) : sProp 𝕄 := bigSep Finset.univ fun j : Fin 15 => dutyTok ER (kcell (c, tcell j)) 0 (tduty j)

def G (c : Dev nD) : sProp 𝕄 :=
  iprop((bigSep Finset.univ fun k : Fin 13 => roundState ER (moeRd m) (kcell (c, k)) 0)
    ∗ (bigSep Finset.univ fun k : Fin 13 => iprop(atPos ER (kcell (c, k)) 0 ∅ 0 ∗ reached ER (kcell (c, k)) 0)) ∗ toks c)
def G' (c : Dev nD) : sProp 𝕄 := iprop(∃ K, ghost m K c)

theorem fund_cells : BI.own (ER (initOf cells cellToks)) ⊢ (|==> bigSep Finset.univ (G m) : sProp 𝕄) := by
  have hX (Φ : GSem nD τ sig → sProp 𝕄) : bigSep cells Φ = bigSep Finset.univ fun c : Dev nD => bigSep Finset.univ fun k : Fin 13 => Φ (kcell (c, k)) := by
    unfold cells; rw [bigSep_map, bigSep_univ_prod]; rfl
  have hT : bigSep cellToks (fun x => (dutyTok ER x.1 x.2.1 x.2.2 : sProp 𝕄)) = bigSep Finset.univ fun c : Dev nD => toks c := by
    unfold cellToks; rw [bigSep_map, bigSep_univ_prod]; rfl
  iintro HX
  imod (Rounds.fund ER (moeRd m) cells cellToks) $$ HX with ⟨Hst, Hr, Hat, Htok⟩
  imodintro
  ihave Hst' := (Entails.of_eq (hX fun g => roundState ER (moeRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

theorem bigSep_fin13 (Φ : Fin 13 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ
theorem bigSep_fin15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

theorem ownSems0_eq (c : Dev nD) : (Pipeline.ownSems0 (Ix := Unit) (Name := ℕ) (U := UU) (Lvl := ℕ) (Val := Elt F) (τ := τ) osem c : sProp 𝕄) = zeros c := by
  rw [Pipeline.ownSems0_eq_of_list c osem [0, 1, 2, 3, 4, 5, 6, 7, 8, 9, 10, 11] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 13 => semVal (kcell (c, k)) 0 : sProp 𝕄) := by
  rw [ownSems0_eq, unscopedSems0_eq, bigSep_fin13]
  iintro ⟨HS, HB⟩
  isplitl [HB]; · iexact HB
  iapply (Entails.of_eq (show (zeros c : sProp 𝕄) = iprop(semVal (kcell (c, 1)) 0 ∗ semVal (kcell (c, 2)) 0 ∗ semVal (kcell (c, 3)) 0 ∗ semVal (kcell (c, 4)) 0 ∗ semVal (kcell (c, 5)) 0 ∗ semVal (kcell (c, 6)) 0 ∗ semVal (kcell (c, 7)) 0 ∗ semVal (kcell (c, 8)) 0 ∗ semVal (kcell (c, 9)) 0 ∗ semVal (kcell (c, 10)) 0 ∗ semVal (kcell (c, 11)) 0 ∗ semVal (kcell (c, 12)) 0) from rfl)); iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (moeRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 13 => semVal (kcell (c, k)) 0) ∗ bigSep Finset.univ fun k : Fin 13 => roundState ER (moeRd m) (kcell (c, k)) 0)
      ⊢ (|={Set.univ}=> bigSep Finset.univ fun k => iprop(∃ κ : ℕ, cellInv ER (moeRd m) κ (kcell (c, k))) : sProp 𝕄) from by
        rw [← bigSep_sep']
        exact (bigSep_mono fun k _ => (Rounds.body_intro ER (moeRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens go to the devices that pay them -/

/-- The device `k` places on, as a permutation (`k'` places on leads back). -/
def shE (k k' : ℕ) (h : k + k' = 4) : Dev nD ≃ Dev nD where
  toFun := sh k
  invFun := sh k'
  left_inv c := Fin.ext (by have := c.isLt; show ((c.val + k) % 4 + k') % 4 = c.val; have : c.val < 4 := c.isLt; omega)
  right_inv c := Fin.ext (by have : c.val < 4 := c.isLt; show ((c.val + k') % 4 + k) % 4 = c.val; omega)

theorem around (k k' : ℕ) (h : k + k' = 4) (Φ : Dev nD → sProp 𝕄) : bigSep Finset.univ Φ ⊢ bigSep Finset.univ fun c => Φ (sh k c) :=
  Entails.of_eq (bigSep_univ_equiv (shE k k' h) Φ)

theorem toks_around : (bigSep Finset.univ fun c : Dev nD => (toks c : sProp 𝕄)) ⊢ bigSep Finset.univ fun c : Dev nD => payToks c := by
  unfold toks payToks
  simp only [bigSep_fin15, bigSep_sep']
  have d17_8 : 8 < 17 := by decide
  have d17_9 : 9 < 17 := by decide
  have d17_10 : 10 < 17 := by decide
  have d17_14 : 14 < 17 := by decide
  have d17_15 : 15 < 17 := by decide
  have d17_16 : 16 < 17 := by decide
  iintro ⟨HB0, HB1, HB2, H5, H6, H7, H8, H9, H10, H11, H12, H13, H14, H15, H16⟩
  isplitl [HB2]; · iapply (around 1 3 rfl fun c : Dev nD => (dutyTok ER (barCell c) 0 (2 : Fin 3) : sProp 𝕄)); try iexact HB2
  isplitl [HB1]; · iapply (around 2 2 rfl fun c : Dev nD => (dutyTok ER (barCell c) 0 (1 : Fin 3) : sProp 𝕄)); try iexact HB1
  isplitl [HB0]; · iapply (around 3 1 rfl fun c : Dev nD => (dutyTok ER (barCell c) 0 (0 : Fin 3) : sProp 𝕄)); try iexact HB0
  isplitl [H5]; · iexact H5
  isplitl [H6]; · iexact H6
  isplitl [H7]; · iexact H7
  isplitl [H11]; · iexact H11
  isplitl [H12]; · iexact H12
  isplitl [H13]; · iexact H13
  isplitl [H8]; · iapply (around 1 3 rfl fun c : Dev nD => (dutyTok ER (dmaCell 8 d17_8 c) 0 (0 : Fin 3) : sProp 𝕄)); try iexact H8
  isplitl [H9]; · iapply (around 2 2 rfl fun c : Dev nD => (dutyTok ER (dmaCell 9 d17_9 c) 0 (0 : Fin 3) : sProp 𝕄)); try iexact H9
  isplitl [H10]; · iapply (around 3 1 rfl fun c : Dev nD => (dutyTok ER (dmaCell 10 d17_10 c) 0 (0 : Fin 3) : sProp 𝕄)); try iexact H10
  isplitl [H14]; · iapply (around 1 3 rfl fun c : Dev nD => (dutyTok ER (dmaCell 14 d17_14 c) 0 (0 : Fin 3) : sProp 𝕄)); try iexact H14
  isplitl [H15]; · iapply (around 2 2 rfl fun c : Dev nD => (dutyTok ER (dmaCell 15 d17_15 c) 0 (0 : Fin 3) : sProp 𝕄)); try iexact H15
  iapply (around 3 1 rfl fun c : Dev nD => (dutyTok ER (dmaCell 16 d17_16 c) 0 (0 : Fin 3) : sProp 𝕄)); try iexact H16

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 13 → ℕ) (c : Dev nD) : iprop(records m K ∗ ats c ∗ payToks c) ⊢ G' m c := by
  unfold G' ghost
  iintro H
  iexists K
  iexact H

theorem regroup :
    (bigSep Finset.univ fun c : Dev nD => iprop((bigSep Finset.univ fun k => iprop(∃ κ : ℕ, cellInv ER (moeRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 13 => iprop(∃ κ : ℕ, cellInv ER (moeRd m) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄))]
  iintro ⟨HI, ⟨Hat, #HR⟩, Htok⟩
  ihave HK := (BI.bigSep_exists_pi Finset.univ (fun (ck : Dev nD × Fin 13) (κ : ℕ) => (cellInv ER (moeRd m) κ (kcell ck) : sProp 𝕄))) $$ HI
  icases HK with ⟨%K, #HI⟩
  ihave Htk := (toks_around (F := F)) $$ Htok
  iapply (with_persistent (R := records m K) fun c _ => ghost_intro m K c)
  isplitr
  · unfold records; isplitl; · iexact HI
    iexact HR
  · iapply ((Entails.of_eq (bigSep_sep' Finset.univ (fun c : Dev nD => bigSep Finset.univ fun k : Fin 13 => (atPos ER (kcell (c, k)) 0 ∅ 0 : sProp 𝕄)) payToks).symm).trans
      (bigSep_mono fun c _ => show _ ⊢ iprop(ats c ∗ payToks c) from Entails.of_eq (by rw [bigSep_fin13]; rfl)))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

/-- What the others owe device `d`'s cells. -/
def dueTo (d : Dev nD) : CellTallies nD τ sig Unit :=
  tallyAt (dmaCell 10 (by decide) d) () NQ + tallyAt (dmaCell 16 (by decide) d) () NS + tallyAt (dmaCell 9 (by decide) d) () NQ + tallyAt (dmaCell 15 (by decide) d) () NS + tallyAt (dmaCell 8 (by decide) d) () NQ + tallyAt (dmaCell 14 (by decide) d) () NS + tallyAt (barCell d) () 1 + tallyAt (barCell d) () 1 + tallyAt (barCell d) () 1

theorem sum_around (k k' : ℕ) (h : k + k' = 4) (f : Dev nD → CellTallies nD τ sig Unit) : ∑ d, f (sh k d) = ∑ d, f d := Equiv.sum_comp (shE k k' h) f

theorem sum_O₀ : (∑ d, O₀ d) = ∑ d, dueTo d := by
  unfold dueTo O₀ OB2 OB3 OS1 OQ1 OS2 OQ2 OS3 OQ3
  simp only [Finset.sum_add_distrib]
  rw [sum_around 3 1 rfl (fun d => tallyAt (dmaCell 10 (by decide) d) () NQ), sum_around 3 1 rfl (fun d => tallyAt (dmaCell 16 (by decide) d) () NS),
    sum_around 2 2 rfl (fun d => tallyAt (dmaCell 9 (by decide) d) () NQ), sum_around 2 2 rfl (fun d => tallyAt (dmaCell 15 (by decide) d) () NS),
    sum_around 1 3 rfl (fun d => tallyAt (dmaCell 8 (by decide) d) () NQ), sum_around 1 3 rfl (fun d => tallyAt (dmaCell 14 (by decide) d) () NS),
    sum_around 3 1 rfl (fun d => tallyAt (barCell d) () 1), sum_around 2 2 rfl (fun d => tallyAt (barCell d) () 1), sum_around 1 3 rfl (fun d => tallyAt (barCell d) () 1)]

theorem dueTo_own (d : Dev nD) (g : GSem nD τ sig) (h : dueTo d g ≠ 0) : g.1 = (d.tc : Thread nD τ) := by
  have hp : ∃ u, 0 < dueTo d g u := by
    by_contra hn
    exact h (Finsupp.ext fun u => by
      have := not_exists.mp hn u
      exact Nat.eq_zero_of_not_pos this)
  obtain ⟨u, hu⟩ := hp
  unfold dueTo at hu
  rcases pos_split hu with hu | hu; swap; · rw [tally_pos hu]
  rcases pos_split hu with hu | hu; swap; · rw [tally_pos hu]
  rcases pos_split hu with hu | hu; swap; · rw [tally_pos hu]
  rcases pos_split hu with hu | hu; swap; · rw [tally_pos hu]
  rcases pos_split hu with hu | hu; swap; · rw [tally_pos hu]
  rcases pos_split hu with hu | hu; swap; · rw [tally_pos hu]
  rcases pos_split hu with hu | hu; swap; · rw [tally_pos hu]
  rcases pos_split hu with hu | hu; swap; · rw [tally_pos hu]
  rw [tally_pos hu]

theorem three_ones (c : Dev nD) : (tallyAt (barCell c) () 1 + tallyAt (barCell c) () 1 + tallyAt (barCell c) () 1 : CellTallies nD τ sig Unit) = tallyAt (barCell c) () 3 := by
  funext g; refine Finsupp.ext fun u => ?_
  rw [Pi.add_apply, Finsupp.add_apply, Pi.add_apply, Finsupp.add_apply, tallyAt_apply, tallyAt_apply]
  split <;> rfl

theorem creds_intro (c : Dev nD) : (Pipeline.launchCred O₀ c : sProp 𝕄) ⊢ creds c := by
  rw [Pipeline.launchCred_of_sum O₀ dueTo sum_O₀ dueTo_own c]
  unfold dueTo creds
  rw [add_assoc, add_assoc, ← add_assoc (tallyAt (barCell c) () 1), three_ones]
  iintro H
  ihave H := (cred_add _ _).1 $$ H; icases H with ⟨H, Hb⟩
  ihave H := (cred_add _ _).1 $$ H; icases H with ⟨H, H14⟩
  ihave H := (cred_add _ _).1 $$ H; icases H with ⟨H, H8⟩
  ihave H := (cred_add _ _).1 $$ H; icases H with ⟨H, H15⟩
  ihave H := (cred_add _ _).1 $$ H; icases H with ⟨H, H9⟩
  ihave H := (cred_add _ _).1 $$ H; icases H with ⟨H10, H16⟩
  isplitl [Hb]; · iexact Hb
  isplitl [H8]; · iexact H8
  isplitl [H9]; · iexact H9
  isplitl [H10]; · iexact H10
  isplitl [H14]; · iexact H14
  isplitl [H15]; · iexact H15
  iexact H16

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scr
  iintro H; iexact H

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def Final : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- The whole program on the mesh of four devices, from any memory with zero counters: it ends, with every window's array at its
    final contents and every counter at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => block_pos0 w) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments end as they began, -/
theorem final_in (c : Dev nD) (w : Fin cfg0.W) (h : (cfg0.win w).isOut = false) : finalA m ρ c w = (s₀ m ρ).mem ((cfg0.win w).arr.view.loc (c : Thread nD τ)) :=
  (dats (F := F) m ρ 0 c).arrAt_in w h _

end Cert.KernelIdeal.Moe

end
-- ==== Proof.Frames.lean ====
/-
  The frame claims. Each program terminates on every device, leaves its four arguments as they were and every semaphore counter at
  zero: the two kernels by their runs (KRun, IRun), whose windows 0..3 are the arguments; the reference by the run of its list of host
  operations, and because it declares no semaphore.
-/
module

public import proofs.«01_k».proof.Defs
public import proofs.«01_k».proof.Proof.KRun
public import proofs.«01_k».proof.Proof.IRun
public import proofs.«01_k».proof.Proof.Gen.ReferenceIdeal.Run
public import proofs.«01_k».proof.Proof.Gen.Pre_routed_and_finite_KernelIdeal
public import proofs.«01_k».proof.Proof.Gen.Pre_routed_and_finite_ReferenceIdeal

@[expose] public section

noncomputable section

namespace Cert.Proof

open Idealize.ShloMosaic Idealize.SL.Sem

theorem frame_kernel : Cert.quiescent_Kernel (hKernel := Cert.Kernel.Gen.facts) := fun m g _ =>
  (θ_run Cert.Kernel.defs _ _).mono
    (fun _ h => ⟨fun c => ⟨(h.1 c 0).trans (Cert.Kernel.Moe.final_in m g c 0 rfl), (h.1 c 1).trans (Cert.Kernel.Moe.final_in m g c 1 rfl),
      (h.1 c 2).trans (Cert.Kernel.Moe.final_in m g c 2 rfl), (h.1 c 3).trans (Cert.Kernel.Moe.final_in m g c 3 rfl)⟩, h.2⟩)
    (Cert.Kernel.Moe.run_main m g)

/-- The idealised kernel leaves its arguments and its counters, from any memory. -/
theorem ideal_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD,
        (r.2.mem ((c.tc : Thread Cert.KernelIdeal.nD Cert.KernelIdeal.τ).loc Cert.KernelIdeal.main_v1) = Cert.KernelIdeal.Moe.finalA m g c 4)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
        ∧ r.2.sem = fun _ => 0) :=
  (θ_run Cert.KernelIdeal.defs _ _).mono
    (fun _ h => ⟨fun c => ⟨h.1 c 4, (h.1 c 0).trans (Cert.KernelIdeal.Moe.final_in m g c 0 rfl), (h.1 c 1).trans (Cert.KernelIdeal.Moe.final_in m g c 1 rfl),
      (h.1 c 2).trans (Cert.KernelIdeal.Moe.final_in m g c 2 rfl), (h.1 c 3).trans (Cert.KernelIdeal.Moe.final_in m g c 3 rfl)⟩, h.2⟩)
    (Cert.KernelIdeal.Moe.run_main m g)

theorem frame_ideal : Cert.quiescent_KernelIdeal (hKernelIdeal := Cert.KernelIdeal.Gen.facts) := fun m g _ =>
  (θ_run Cert.KernelIdeal.defs _ _).mono (fun _ h => ⟨fun c => (h.1 c).2, h.2⟩) (ideal_run m g)

theorem frame_ideal_pre : Cert.quiescent_KernelIdeal_pre_routed_and_finite_KernelIdeal (hKernelIdeal := Cert.KernelIdeal.Gen.facts)
    (hPre_routed_and_finite_KernelIdeal := Cert.Pre_routed_and_finite_KernelIdeal.Gen.facts) := fun m g _ =>
  (θ_run Cert.KernelIdeal.defs _ _).mono (fun _ h => ⟨fun c => (h.1 c).2, h.2⟩) (ideal_run m g)

theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

theorem frame_reference_pre : Cert.quiescent_ReferenceIdeal_pre_routed_and_finite_ReferenceIdeal
    (hReferenceIdeal := Cert.ReferenceIdeal.Gen.facts)
    (hPre_routed_and_finite_ReferenceIdeal := Cert.Pre_routed_and_finite_ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

theorem preserves : Cert.preserves_Kernel_KernelIdeal := IdealRules.named_const.statement Cert.KernelIdeal.κ "inv_127" .f32 0x3C010204#32 ((1 / 127 : ℝ) : EReal) rfl

end Cert.Proof

end
-- ==== Proof.Maths.lean ====
/-
The arithmetic of the certificate, with no program in it: the softmax of two scores, and the product of a row with
a column that was sent quantised.
-/
module

public import Idealize.ShloMosaic.PureOps.Ideal
public import Idealize.ShloMosaic.Lib.IdealHost

@[expose] public section

noncomputable section

namespace Cert.Moe

open Idealize.ShloMosaic
open scoped BigOperators

/-! ## The constants -/

theorem bits_127 : Ideal.ofBits .f32 0x42FE0000#32 = ((127 : ℝ) : EReal) := by
  simp [Ideal.ofBits, Ideal.ieee, -EReal.coe_mul]; norm_num
theorem bits_m127 : Ideal.ofBits .f32 0xC2FE0000#32 = ((-127 : ℝ) : EReal) := by
  simp [Ideal.ofBits, Ideal.ieee, -EReal.coe_mul, -EReal.coe_neg]; norm_num
theorem bits_ninf : Ideal.ofBits .f32 0xFF800000#32 = ⊥ := by
  simp [Ideal.ofBits, Ideal.ieee]
theorem bits_tiny : 0 < Ideal.ofBits .f32 0x1E3CE508#32 := by
  simp [Ideal.ofBits, Ideal.ieee, -EReal.coe_mul]

/-! ## Rounding -/

theorem roundHalfEven_le {r : ℝ} {n : ℤ} (h : r ≤ n) : Ideal.roundHalfEven r ≤ n := by
  unfold Ideal.roundHalfEven
  have hf : ⌊r⌋ ≤ n := by exact_mod_cast (Int.floor_le r).trans h
  dsimp only
  by_cases he : ⌊r⌋ = n
  · have : r - ⌊r⌋ < 1 / 2 := by rw [he]; linarith
    rw [if_pos this]; exact hf
  · have : ⌊r⌋ + 1 ≤ n := by omega
    split_ifs <;> omega

theorem le_roundHalfEven {r : ℝ} {n : ℤ} (h : (n : ℝ) ≤ r) : n ≤ Ideal.roundHalfEven r := by
  unfold Ideal.roundHalfEven
  have hf : n ≤ ⌊r⌋ := Int.le_floor.mpr h
  dsimp only
  split_ifs <;> omega

/-- An integer of magnitude at most 127 goes through eight bits unchanged. -/
theorem toInt_fptosi {n : ℤ} (h1 : -127 ≤ n) (h2 : n ≤ 127) : (Ideal.fptosi 8 (((n : ℝ) : EReal))).toInt = n := by
  rw [Ideal.fptosi, Ideal.toIntClamped_coe]
  have e : (if (0 : ℝ) ≤ (n : ℝ) then ⌊(n : ℝ)⌋ else ⌈(n : ℝ)⌉) = n := by
    split_ifs
    · exact Int.floor_intCast n
    · exact Int.ceil_intCast n
  rw [e]
  have : max (-((2 ^ (8 - 1) : Nat) : ℤ)) (min (((2 ^ (8 - 1) : Nat) : ℤ) - 1) n) = n := by
    norm_num; omega
  rw [this, BitVec.toInt_ofInt]
  exact Int.bmod_eq_of_le (by norm_num; omega) (by norm_num; omega)

/-! ## The quantised product -/

/-- One weight quantised against its column's scale: to the nearest integer, in `[-127, 127]`. -/
def quant (w A : EReal) : EReal :=
  min ((127 : ℝ) : EReal) (max ((-127 : ℝ) : EReal) (Ideal.liftRound Ideal.roundHalfEven (w * Ideal.div ((127 : ℝ) : EReal) A)))

/-- The scale of a column: its largest magnitude, kept away from zero. -/
def colMax (w : Fin 256 → EReal) : EReal :=
  max ((Finset.univ : Finset (Fin 256)).fold max ⊥ fun k => max (w k) (-(w k))) (Ideal.ofBits .f32 0x1E3CE508#32)

theorem colMax_pos (w : Fin 256 → EReal) : 0 < colMax w := lt_of_lt_of_le bits_tiny (le_max_right _ _)
theorem le_colMax (w : Fin 256 → EReal) (k : Fin 256) : max (w k) (-(w k)) ≤ colMax w :=
  le_trans ((Finset.le_fold_max (max (w k) (-(w k)))).mpr (Or.inr ⟨k, Finset.mem_univ k, le_rfl⟩)) (le_max_left _ _)

/-- What one column of one expert gives a row: the product with the weights where the token's device owns the expert,
    the product with the quantised weights scaled back where it does not. -/
def part (own : Bool) (x w : Fin 256 → EReal) : EReal :=
  if own then ∑ k, x k * w k else ∑ k, x k * (quant (w k) (colMax w) * Ideal.div (colMax w) ((127 : ℝ) : EReal))

theorem div_top (x : EReal) : Ideal.div x ⊤ = 0 := by
  rw [Ideal.div, if_neg (by simp)]; simp

/-- In a column of finite scale the quantised weight is an integer of magnitude at most 127, before and after the clip. -/
theorem round_col {w : EReal} {a : ℝ} (ha : 0 < a) (hw : max w (-w) ≤ (a : EReal)) :
    ∃ n : ℤ, -127 ≤ n ∧ n ≤ 127 ∧ Ideal.liftRound Ideal.roundHalfEven (w * Ideal.div ((127 : ℝ) : EReal) (a : EReal)) = ((n : ℝ) : EReal) := by
  have h1 := (max_le_iff.mp hw).1
  have h2 := (max_le_iff.mp hw).2
  induction w with
  | bot => simp at h2
  | top => simp at h1
  | coe w =>
    have h1' : w ≤ a := by exact_mod_cast h1
    have h2' : -w ≤ a := by exact_mod_cast h2
    rw [Ideal.div_coe ha.ne', ← EReal.coe_mul, ← EReal.coe_mul]
    refine ⟨Ideal.roundHalfEven (w * (127 * (1 / a))), le_roundHalfEven ?_, roundHalfEven_le ?_, rfl⟩
    · have : w * (127 * (1 / a)) = 127 * (w / a) := by field_simp
      rw [this]
      have : -1 ≤ w / a := by rw [le_div_iff₀ ha]; linarith
      push_cast; linarith
    · have : w * (127 * (1 / a)) = 127 * (w / a) := by field_simp
      rw [this]
      have : w / a ≤ 1 := by rw [div_le_iff₀ ha]; linarith
      push_cast; linarith

theorem coe_sum {n : ℕ} (f : Fin n → ℝ) : ((∑ k, f k : ℝ) : EReal) = ∑ k, (f k : EReal) := by
  induction n with
  | zero => simp
  | succ n ih => rw [Fin.sum_univ_succ, Fin.sum_univ_succ, EReal.coe_add, ih]

/-- A row times a quantised column, weighted and then scaled back, is the weighted product of the row with the column scaled back. -/
theorem sent_product {x w : Fin 256 → EReal} (hx : ∀ k, ∃ r : ℝ, x k = r) (g : ℝ) {A : EReal} (hA : 0 < A)
    (hw : ∀ k, max (w k) (-(w k)) ≤ A) :
    ((∑ k, x k * (((Ideal.fptosi 8 (Ideal.liftRound Ideal.roundHalfEven (w k * Ideal.div ((127 : ℝ) : EReal) A))).toInt : ℝ) : EReal)) * (g : EReal))
        * (A * ((1 / 127 : ℝ) : EReal))
      = (g : EReal) * ∑ k, x k * (quant (w k) A * Ideal.div A ((127 : ℝ) : EReal)) := by
  choose r hr using hx
  induction A with
  | bot => simp at hA
  | top =>
    have h0 : Ideal.liftRound Ideal.roundHalfEven 0 = (0 : EReal) := by
      show (((Ideal.roundHalfEven 0 : ℤ) : ℝ) : EReal) = 0
      have : Ideal.roundHalfEven 0 = 0 := le_antisymm (roundHalfEven_le (by simp)) (le_roundHalfEven (by simp))
      rw [this]; simp
    have hq : ∀ k, quant (w k) ⊤ = 0 := fun k => by
      unfold quant
      rw [div_top, mul_zero, h0]
      rw [max_eq_right (by exact_mod_cast (by norm_num : (-127 : ℝ) ≤ 0)), min_eq_right (by exact_mod_cast (by norm_num : (0 : ℝ) ≤ 127))]
    have hf : (Ideal.fptosi 8 (0 : EReal)).toInt = 0 := by
      have := toInt_fptosi (n := 0) (by norm_num) (by norm_num)
      simpa using this
    simp only [hq, div_top, mul_zero, h0, hf, zero_mul, Int.cast_zero, EReal.coe_zero, Finset.sum_const_zero]
  | coe a =>
    have ha : 0 < a := by exact_mod_cast hA
    choose n hn1 hn2 hn using fun k => round_col ha (hw k)
    have hq : ∀ k, quant (w k) a = ((n k : ℝ) : EReal) := fun k => by
      unfold quant
      rw [hn k, max_eq_right (by exact_mod_cast (by exact_mod_cast hn1 k : (-127 : ℝ) ≤ n k)),
        min_eq_right (by exact_mod_cast (by exact_mod_cast hn2 k : (n k : ℝ) ≤ 127))]
    simp only [hq, hn, toInt_fptosi (hn1 _) (hn2 _), hr, Ideal.div_coe (by norm_num : (127 : ℝ) ≠ 0), ← EReal.coe_mul, ← coe_sum]
    congr 1
    rw [Finset.mul_sum, Finset.sum_mul, Finset.sum_mul]
    exact Finset.sum_congr rfl fun k _ => by ring

/-! ## The softmax of two scores -/

/-- The softmax of the first of two scores, -/
def soft (a b : ℝ) : ℝ := Real.exp a / (Real.exp a + Real.exp b)

theorem soft_nonneg (a b : ℝ) : 0 ≤ soft a b := by unfold soft; positivity

theorem soft_shift (a b m : ℝ) : Real.exp (a - m) / (Real.exp (a - m) + Real.exp (b - m)) = soft a b := by
  unfold soft
  rw [Real.exp_sub, Real.exp_sub]
  have := Real.exp_pos m
  have := Real.exp_pos a
  have := Real.exp_pos b
  field_simp

theorem div_pos {x y : ℝ} (h : 0 < y) : Ideal.div (x : EReal) (y : EReal) = ((x / y : ℝ) : EReal) := by
  rw [Ideal.div_coe h.ne', ← EReal.coe_mul]; congr 1; field_simp

/-- as two scores give it, shifted by any finite number, -/
theorem soft_pair (a b m : ℝ) :
    Ideal.div (Ideal.exp ((a : EReal) - (m : EReal))) (Ideal.exp ((a : EReal) - (m : EReal)) + Ideal.exp ((b : EReal) - (m : EReal))) = (soft a b : EReal)
    ∧ Ideal.div (Ideal.exp ((b : EReal) - (m : EReal))) (Ideal.exp ((a : EReal) - (m : EReal)) + Ideal.exp ((b : EReal) - (m : EReal))) = (soft b a : EReal) := by
  rw [← EReal.coe_sub, ← EReal.coe_sub, Ideal.exp_coe, Ideal.exp_coe, ← EReal.coe_add]
  constructor
  · rw [div_pos (by positivity), soft_shift]
  · rw [div_pos (by positivity), add_comm, soft_shift]

/-- and as two entries of a softmax over all the scores give it when they are normalised again. -/
theorem soft_norm (a b m D : ℝ) (hD : 0 < D) :
    Ideal.div (Ideal.div (Ideal.exp ((a : EReal) - (m : EReal))) (D : EReal))
      (Ideal.div (Ideal.exp ((a : EReal) - (m : EReal))) (D : EReal) + Ideal.div (Ideal.exp ((b : EReal) - (m : EReal))) (D : EReal)) = (soft a b : EReal) := by
  rw [← EReal.coe_sub, ← EReal.coe_sub, Ideal.exp_coe, Ideal.exp_coe, div_pos hD, div_pos hD, ← EReal.coe_add,
    div_pos (by positivity), ← soft_shift a b m]
  congr 1
  have := Real.exp_pos (a - m)
  have := Real.exp_pos (b - m)
  field_simp

/-! ## The gates pick two experts -/

theorem pick_two (i j : Fin 16) (g k : ℝ) (hg : 0 ≤ g) (hk : 0 ≤ k) (P : Fin 16 → EReal) :
    ∑ e : Fin 16, ((if e = i then (g : EReal) else 0) + (if e = j then (k : EReal) else 0)) * P e = g * P i + k * P j := by
  have : ∀ e : Fin 16, ((if e = i then (g : EReal) else 0) + (if e = j then (k : EReal) else 0)) * P e
      = (if e = i then (g : EReal) * P i else 0) + (if e = j then (k : EReal) * P j else 0) := fun e => by
    rw [EReal.right_distrib_of_nonneg (by split_ifs; exact_mod_cast hg; exact le_rfl) (by split_ifs; exact_mod_cast hk; exact le_rfl)]
    congr 1
    · split_ifs with h; rw [h]; exact zero_mul _
    · split_ifs with h; rw [h]; exact zero_mul _
  simp only [this, Finset.sum_add_distrib, Finset.sum_ite_eq', Finset.mem_univ, if_true]

end Cert.Moe
-- ==== Proof.Terms.lean ====
/-
What one expert adds to the output: the terms of the kernel's sum, and each term read at an element.
-/
module

public import proofs.«01_k».proof.Proof.IRun
public import proofs.«01_k».proof.Proof.Maths
public import Idealize.ShloMosaic.Lib.ValueIdxCore
public import Idealize.ShloMosaic.Lib.MatmulPlain
public import Idealize.ShloMosaic.Lib.IdealHost
public import Idealize.ShloMosaic.Lib.Pipeline.Value

@[expose] public section

noncomputable section

namespace Cert.KernelIdeal.Moe

open Cert.KernelIdeal Cert.KernelIdeal.Gen
open Idealize.ShloMosaic hiding ix0 ix1 ix2 ix3 ix4
open Idealize.ShloMosaic.ValueIdx
open scoped BigOperators

/-! ## The terms -/

/-- The column of the gates the word `w` names, -/
def gsel (w : BitVec 32) (g : FVec Ideal S1024x16 .f32) : FVec Ideal S1024x1 .f32 :=
  shapeCast S1024x1 (multiReduction .add [1] S1024 (select (cmpi .eq colI (broadcast S1024x16 w)) g (broadcast S1024x16 (Scalar.ofBits .f32 0x00000000#32)))
    0x00000000#32 reduces_S1024x16_S1024 (.inl rfl) rfl) shapeCasts_S1024_S1024x1
/-- a term of an expert the device owns, -/
def ownT (w : BitVec 32) (g : FVec Ideal S1024x16 .f32) (x : FVec Ideal S1024x256 .bf16) (E : Vec Ideal S1x256x512 .f32) : FVec Ideal S1024x512 .f32 :=
  mulf (matmul dot_S1024x256_S256x512_S1024x512_1_0_0_1_n_n none x (truncf .bf16 (shapeCast S256x512 E shapeCasts_S1x256x512_S256x512) bitsLt_bf16_f32)
      (constant S1024x512 .f32 0x00000000#32))
    (broadcastTo S1024x512 (gsel w g) broadcasts_S1024x1_S1024x512)
/-- and a term of an expert that was sent. -/
def sentT (e : ℕ) (he : S4x512.Slices ![e, 0] S1x512) (w : BitVec 32) (g : FVec Ideal S1024x16 .f32) (x : FVec Ideal S1024x256 .bf16)
    (S : Vec Ideal S1x4x512 .f32) (Q : Vec Ideal S1x1x256x512 .i8) : FVec Ideal S1024x512 .f32 :=
  mulf (mulf (matmul dot_S1024x256_S256x512_S1024x512_1_0_0_1_n_n none x
        (sitofp .bf16 (shapeCast S256x512 (Q : IVec S1x1x256x512 8) shapeCasts_S1x1x256x512_S256x512)) (constant S1024x512 .f32 0x00000000#32))
      (broadcastTo S1024x512 (gsel w g) broadcasts_S1024x1_S1024x512))
    (broadcastTo S1024x512 (extractStridedSlice S1x512 ![e, 0] (shapeCast S4x512 S shapeCasts_S1x4x512_S4x512) he) broadcasts_S1x512_S1024x512)

variable (m : (ℓ : Loc nD τ sig) → Buf (Elt Ideal) ℓ) (c : Dev nD)

/-- The word of expert `e` of the device `k` places back. -/
abbrev wd (k e : BitVec 32) : BitVec 32 := Scalar.addi (Scalar.muli (mw (V2 c) k) 4#32) e
abbrev Sc (j : ℕ) (h : ∀ a, (![j, 0, 0] : Fin 3 → Nat) a + S1x4x512.size a ≤ S4x4x512.size a) (d : Dev nD) : Vec Ideal S1x4x512 .f32 := rdS j h (sAll m d)
abbrev Qc (j e : ℕ) (h : ∀ a, (![j, e, 0, 0] : Fin 4 → Nat) a + S1x1x256x512.size a ≤ S4x4x256x512.size a) (d : Dev nD) : Vec Ideal S1x1x256x512 .i8 := rdQ j e h (qAll m d)

theorem addf_cast (A T : FVec Ideal S1024x512 .f32) : addf (shapeCast S1024x512 A shapeCasts_S1024x512_S1024x512) T = addf A T := by
  rw [shapeCast_self]

set_option maxRecDepth 10000

theorem A0_eq : A0 m c = ownT (wd c 0#32 0#32) (gates m c) (xb m c) (rdE 0 inb_S4x256x512_S1x256x512_0_0_0 (ein m c)) := rfl
theorem A1_eq : A1 m c = addf (A0 m c) (ownT (wd c 0#32 1#32) (gates m c) (xb m c) (rdE 1 inb_S4x256x512_S1x256x512_1_0_0 (ein m c))) :=
  addf_cast (A0 m c) _
theorem A2_eq : A2 m c = addf (A1 m c) (ownT (wd c 0#32 2#32) (gates m c) (xb m c) (rdE 2 inb_S4x256x512_S1x256x512_2_0_0 (ein m c))) :=
  addf_cast (A1 m c) _
theorem A3_eq : A3 m c = addf (A2 m c) (ownT (wd c 0#32 3#32) (gates m c) (xb m c) (rdE 3 inb_S4x256x512_S1x256x512_3_0_0 (ein m c))) :=
  addf_cast (A2 m c) _
theorem A4_eq : A4 m c = addf (A3 m c) (sentT 0 slices_S4x512_o0_0_S1x512 (wd c 1#32 0#32) (gates m c) (xb m c) (Sc m 1 inb_S4x4x512_S1x4x512_1_0_0 (sh 3 c)) (Qc m 1 0 inb_S4x4x256x512_S1x1x256x512_1_0_0_0 (sh 3 c))) :=
  addf_cast (A3 m c) _
theorem A5_eq : A5 m c = addf (A4 m c) (sentT 1 slices_S4x512_o1_0_S1x512 (wd c 1#32 1#32) (gates m c) (xb m c) (Sc m 1 inb_S4x4x512_S1x4x512_1_0_0 (sh 3 c)) (Qc m 1 1 inb_S4x4x256x512_S1x1x256x512_1_1_0_0 (sh 3 c))) :=
  addf_cast (A4 m c) _
theorem A6_eq : A6 m c = addf (A5 m c) (sentT 2 slices_S4x512_o2_0_S1x512 (wd c 1#32 2#32) (gates m c) (xb m c) (Sc m 1 inb_S4x4x512_S1x4x512_1_0_0 (sh 3 c)) (Qc m 1 2 inb_S4x4x256x512_S1x1x256x512_1_2_0_0 (sh 3 c))) :=
  addf_cast (A5 m c) _
theorem A7_eq : A7 m c = addf (A6 m c) (sentT 3 slices_S4x512_o3_0_S1x512 (wd c 1#32 3#32) (gates m c) (xb m c) (Sc m 1 inb_S4x4x512_S1x4x512_1_0_0 (sh 3 c)) (Qc m 1 3 inb_S4x4x256x512_S1x1x256x512_1_3_0_0 (sh 3 c))) :=
  addf_cast (A6 m c) _
theorem A8_eq : A8 m c = addf (A7 m c) (sentT 0 slices_S4x512_o0_0_S1x512 (wd c 2#32 0#32) (gates m c) (xb m c) (Sc m 2 inb_S4x4x512_S1x4x512_2_0_0 (sh 2 c)) (Qc m 2 0 inb_S4x4x256x512_S1x1x256x512_2_0_0_0 (sh 2 c))) :=
  addf_cast (A7 m c) _
theorem A9_eq : A9 m c = addf (A8 m c) (sentT 1 slices_S4x512_o1_0_S1x512 (wd c 2#32 1#32) (gates m c) (xb m c) (Sc m 2 inb_S4x4x512_S1x4x512_2_0_0 (sh 2 c)) (Qc m 2 1 inb_S4x4x256x512_S1x1x256x512_2_1_0_0 (sh 2 c))) :=
  addf_cast (A8 m c) _
theorem A10_eq : A10 m c = addf (A9 m c) (sentT 2 slices_S4x512_o2_0_S1x512 (wd c 2#32 2#32) (gates m c) (xb m c) (Sc m 2 inb_S4x4x512_S1x4x512_2_0_0 (sh 2 c)) (Qc m 2 2 inb_S4x4x256x512_S1x1x256x512_2_2_0_0 (sh 2 c))) :=
  addf_cast (A9 m c) _
theorem A11_eq : A11 m c = addf (A10 m c) (sentT 3 slices_S4x512_o3_0_S1x512 (wd c 2#32 3#32) (gates m c) (xb m c) (Sc m 2 inb_S4x4x512_S1x4x512_2_0_0 (sh 2 c)) (Qc m 2 3 inb_S4x4x256x512_S1x1x256x512_2_3_0_0 (sh 2 c))) :=
  addf_cast (A10 m c) _
theorem A12_eq : A12 m c = addf (A11 m c) (sentT 0 slices_S4x512_o0_0_S1x512 (wd c 3#32 0#32) (gates m c) (xb m c) (Sc m 3 inb_S4x4x512_S1x4x512_3_0_0 (sh 1 c)) (Qc m 3 0 inb_S4x4x256x512_S1x1x256x512_3_0_0_0 (sh 1 c))) :=
  addf_cast (A11 m c) _
theorem A13_eq : A13 m c = addf (A12 m c) (sentT 1 slices_S4x512_o1_0_S1x512 (wd c 3#32 1#32) (gates m c) (xb m c) (Sc m 3 inb_S4x4x512_S1x4x512_3_0_0 (sh 1 c)) (Qc m 3 1 inb_S4x4x256x512_S1x1x256x512_3_1_0_0 (sh 1 c))) :=
  addf_cast (A12 m c) _
theorem A14_eq : A14 m c = addf (A13 m c) (sentT 2 slices_S4x512_o2_0_S1x512 (wd c 3#32 2#32) (gates m c) (xb m c) (Sc m 3 inb_S4x4x512_S1x4x512_3_0_0 (sh 1 c)) (Qc m 3 2 inb_S4x4x256x512_S1x1x256x512_3_2_0_0 (sh 1 c))) :=
  addf_cast (A13 m c) _
theorem A15_eq : A15 m c = addf (A14 m c) (sentT 3 slices_S4x512_o3_0_S1x512 (wd c 3#32 3#32) (gates m c) (xb m c) (Sc m 3 inb_S4x4x512_S1x4x512_3_0_0 (sh 1 c)) (Qc m 3 3 inb_S4x4x256x512_S1x1x256x512_3_3_0_0 (sh 1 c))) :=
  addf_cast (A14 m c) _

/-! ## Read at an element -/

theorem cmpi_one (w : ℕ) (a b : BitVec w) : IntOp.cmpi .eq a b = if a = b then 1#1 else 0#1 := by
  rw [WordCmp.cmpi_eq_eq]; by_cases h : a = b <;> simp [h]

theorem colI_apply (t : Fin 1024) (e : Fin 16) : colI (ix2 t e) = BitVec.ofNat 32 e.val :=
  congrArg (BitVec.ofNat 32) (by show 0 * 16 + e.val = e.val; omega)

theorem rowsum_apply (v : FVec Ideal S1024x16 .f32) (t : Fin 1024) :
    shapeCast S1024x1 (multiReduction .add [1] S1024 v 0x00000000#32 reduces_S1024x16_S1024 (.inl rfl) rfl) shapeCasts_S1024_S1024x1 (ix2 t 0)
      = ∑ e : Fin 16, v (ix2 t e) := by
  rw [shapeCast_apply _ _ _ (ix1 t) (by rw [Shape.rowMajor_val_one, Shape.rowMajor_val_two]; show t.val = t.val * 1 + 0; omega)]
  refine (Ideal.multiReduction_add_single _ _ _ _ _ _).trans ?_
  refine Finset.sum_congr rfl fun e _ => congrArg v ?_
  funext a; apply Fin.ext
  match a with
  | ⟨0, _⟩ => rfl
  | ⟨1, _⟩ => rfl

theorem gsel_apply (w : BitVec 32) (g : FVec Ideal S1024x16 .f32) (t : Fin 1024) :
    gsel w g (ix2 t 0) = ∑ e : Fin 16, if BitVec.ofNat 32 e.val = w then g (ix2 t e) else 0 := by
  unfold gsel
  refine (rowsum_apply _ t).trans (Finset.sum_congr rfl fun e _ => ?_)
  show Scalar.select (IntOp.cmpi .eq (colI (ix2 t e)) w) (g (ix2 t e)) (Ideal.ofBits .f32 0x00000000#32) = _
  rw [colI_apply, cmpi_one, Ideal.ofBits_zero_f32]
  split_ifs <;> rfl

theorem bcol_apply (v : FVec Ideal S1024x1 .f32) (t : Fin 1024) (h : Fin 512) :
    broadcastTo S1024x512 v broadcasts_S1024x1_S1024x512 (ix2 t h) = v (ix2 t 0) :=
  broadcastTo_apply _ _ _ _ fun a => by
    match a with
    | ⟨0, _⟩ => rfl
    | ⟨1, _⟩ => rfl

theorem brow_apply (v : FVec Ideal S1x512 .f32) (t : Fin 1024) (h : Fin 512) :
    broadcastTo S1024x512 v broadcasts_S1x512_S1024x512 (ix2 t h) = v (ix2 0 h) :=
  broadcastTo_apply _ _ _ _ fun a => by
    match a with
    | ⟨0, _⟩ => rfl
    | ⟨1, _⟩ => rfl

theorem dot_apply {φ : FTy} (x : FVec Ideal S1024x256 .bf16) (y : FVec Ideal S256x512 φ) (t : Fin 1024) (h : Fin 512) :
    matmul dot_S1024x256_S256x512_S1024x512_1_0_0_1_n_n none x y (constant S1024x512 .f32 0x00000000#32) (ix2 t h)
      = ∑ k : Fin 256, x (ix2 t k) * y (ix2 k h) := by
  refine (Ideal.matmul_plain_apply (M := 1024) (K := 256) (N := 512) none x y _ t h).trans ?_
  show Ideal.ofBits .f32 0x00000000#32 + _ = _
  rw [Ideal.ofBits_zero_f32, zero_add]

theorem ownT_apply (w : BitVec 32) (g : FVec Ideal S1024x16 .f32) (x : FVec Ideal S1024x256 .bf16) (E : Vec Ideal S1x256x512 .f32) (t : Fin 1024) (h : Fin 512) :
    ownT w g x E (ix2 t h) = (∑ k : Fin 256, x (ix2 t k) * (E (ix3 0 k h) : EReal)) * gsel w g (ix2 t 0) := by
  unfold ownT
  rw [mulf_apply, bcol_apply, dot_apply]
  congr 1
  refine Finset.sum_congr rfl fun k _ => congrArg (x (ix2 t k) * ·) ?_
  show shapeCast S256x512 E shapeCasts_S1x256x512_S256x512 (ix2 k h) = _
  exact shapeCast_apply _ _ _ _ (by rw [Shape.rowMajor_val_three, Shape.rowMajor_val_two]; show (0 * 256 + k.val) * 512 + h.val = k.val * 512 + h.val; omega)

theorem sentT_apply (e : ℕ) (he : S4x512.Slices ![e, 0] S1x512) (he4 : e < 4) (w : BitVec 32) (g : FVec Ideal S1024x16 .f32) (x : FVec Ideal S1024x256 .bf16)
    (S : Vec Ideal S1x4x512 .f32) (Q : Vec Ideal S1x1x256x512 .i8) (t : Fin 1024) (h : Fin 512) :
    sentT e he w g x S Q (ix2 t h)
      = ((∑ k : Fin 256, x (ix2 t k) * ((((Q : IVec S1x1x256x512 8) (ix4 0 0 k h)).toInt : ℝ) : EReal)) * gsel w g (ix2 t 0)) * (S (ix3 0 ⟨e, he4⟩ h) : EReal) := by
  unfold sentT
  rw [mulf_apply, mulf_apply, bcol_apply, dot_apply, brow_apply]
  congr 1
  · congr 1
    refine Finset.sum_congr rfl fun k _ => congrArg (x (ix2 t k) * ·) ?_
    show (((shapeCast S256x512 (Q : IVec S1x1x256x512 8) shapeCasts_S1x1x256x512_S256x512 (ix2 k h)).toInt : ℝ) : EReal) = _
    rw [shapeCast_apply _ _ _ (ix4 0 0 k h) (by rw [Shape.rowMajor_val_four, Shape.rowMajor_val_two]; show ((0 * 1 + 0) * 256 + k.val) * 512 + h.val = k.val * 512 + h.val; omega)]
  · rw [extractStridedSlice_apply _ _ _ _ (ix2 ⟨e, he4⟩ h) (fun a => by
      match a with
      | ⟨0, _⟩ => rfl
      | ⟨1, _⟩ => show h.val = 0 + h.val; omega)]
    exact shapeCast_apply _ _ _ _ (by rw [Shape.rowMajor_val_three, Shape.rowMajor_val_two]; show (0 * 4 + e) * 512 + h.val = e * 512 + h.val; omega)

/-! ## The gates -/

/-- The score of the expert a column of the routing names, -/
def score1 (x : FVec Ideal S1024x256 .f32) (r : FVec Ideal S256x16 .f32) (i : IVec S1024x1 32) : FVec Ideal S1024x1 .f32 :=
  shapeCast S1024x1 (multiReduction .add [1] S1024 (select (cmpi .eq colI (broadcastTo S1024x16 (shapeCast S1024x1 i shapeCasts_S1024x1_S1024x1) broadcasts_S1024x1_S1024x16))
    (matmul dot_S1024x256_S256x16_S1024x16_1_0_0_1_n_n none (shapeCast S1024x256 x shapeCasts_S1024x256_S1024x256) (shapeCast S256x16 r shapeCasts_S256x16_S256x16)
      (constant S1024x16 .f32 0x00000000#32)) (broadcast S1024x16 (Scalar.ofBits .f32 0x00000000#32)))
    0x00000000#32 reduces_S1024x16_S1024 (.inl rfl) rfl) shapeCasts_S1024_S1024x1
/-- the exponential of one score over the larger of the two, -/
def ex1 (a s t : FVec Ideal S1024x1 .f32) : FVec Ideal S1024x1 .f32 := exp (subf a (maximumf s t))
/-- and one weight laid on the column it belongs to. -/
def lay (i : IVec S1024x1 32) (g : FVec Ideal S1024x1 .f32) : FVec Ideal S1024x16 .f32 :=
  select (cmpi .eq colI (broadcastTo S1024x16 (shapeCast S1024x1 i shapeCasts_S1024x1_S1024x1) broadcasts_S1024x1_S1024x16))
    (broadcastTo S1024x16 (shapeCast S1024x1 g shapeCasts_S1024x1_S1024x1) broadcasts_S1024x1_S1024x16) (broadcast S1024x16 (Scalar.ofBits .f32 0x00000000#32))

theorem pay5_eq (x : FVec Ideal S1024x256 .f32) (r : FVec Ideal S256x16 .f32) (i j : IVec S1024x1 32) :
    k0_pay5 (F := Ideal) x r i j
      = addf (lay i (divf (ex1 (score1 x r i) (score1 x r i) (score1 x r j)) (addf (ex1 (score1 x r i) (score1 x r i) (score1 x r j)) (ex1 (score1 x r j) (score1 x r i) (score1 x r j)))))
          (lay j (divf (ex1 (score1 x r j) (score1 x r i) (score1 x r j)) (addf (ex1 (score1 x r i) (score1 x r i) (score1 x r j)) (ex1 (score1 x r j) (score1 x r i) (score1 x r j))))) := rfl

theorem b16_apply {α : Type} (v : S1024x1.Idx → α) (t : Fin 1024) (e : Fin 16) :
    broadcastTo S1024x16 (shapeCast S1024x1 v shapeCasts_S1024x1_S1024x1) broadcasts_S1024x1_S1024x16 (ix2 t e) = v (ix2 t 0) := by
  rw [shapeCast_self]
  exact broadcastTo_apply _ _ _ _ fun a => by
    match a with
    | ⟨0, _⟩ => rfl
    | ⟨1, _⟩ => rfl

theorem score1_apply (x : FVec Ideal S1024x256 .f32) (r : FVec Ideal S256x16 .f32) (i : IVec S1024x1 32) (t : Fin 1024) :
    score1 x r i (ix2 t 0) = ∑ e : Fin 16, if BitVec.ofNat 32 e.val = i (ix2 t 0) then ∑ k : Fin 256, x (ix2 t k) * r (ix2 k e) else 0 := by
  unfold score1
  refine (rowsum_apply _ t).trans (Finset.sum_congr rfl fun e _ => ?_)
  rw [shapeCast_self x, shapeCast_self r, select_apply]
  have hm : matmul dot_S1024x256_S256x16_S1024x16_1_0_0_1_n_n none x r (constant S1024x16 .f32 0x00000000#32) (ix2 t e) = ∑ k : Fin 256, x (ix2 t k) * r (ix2 k e) := by
    refine (Ideal.matmul_plain_apply (M := 1024) (K := 256) (N := 16) none x r _ t e).trans ?_
    show Ideal.ofBits .f32 0x00000000#32 + _ = _
    rw [Ideal.ofBits_zero_f32, zero_add]
  rw [hm]
  show Scalar.select (IntOp.cmpi .eq (colI (ix2 t e)) _) _ (Ideal.ofBits .f32 0x00000000#32) = _
  rw [colI_apply, b16_apply, cmpi_one, Ideal.ofBits_zero_f32]
  split_ifs <;> rfl

theorem lay_apply (i : IVec S1024x1 32) (g : FVec Ideal S1024x1 .f32) (t : Fin 1024) (e : Fin 16) :
    lay i g (ix2 t e) = if BitVec.ofNat 32 e.val = i (ix2 t 0) then g (ix2 t 0) else 0 := by
  unfold lay
  show Scalar.select (IntOp.cmpi .eq (colI (ix2 t e)) _) _ (Ideal.ofBits .f32 0x00000000#32) = _
  rw [colI_apply, b16_apply, b16_apply, cmpi_one, Ideal.ofBits_zero_f32]
  split_ifs <;> rfl

theorem ofNat_inj16 (e i : Fin 16) : BitVec.ofNat 32 e.val = BitVec.ofNat 32 i.val ↔ e = i := by
  constructor
  · intro h
    have := congrArg BitVec.toNat h
    simp only [BitVec.toNat_ofNat] at this
    apply Fin.ext; have := e.isLt; have := i.isLt; omega
  · rintro rfl; rfl

/-- The gates where the routing names experts `i` and `j` and their scores are finite. -/
theorem gates_apply (x : FVec Ideal S1024x256 .f32) (r : FVec Ideal S256x16 .f32) (I J : IVec S1024x1 32) (t : Fin 1024) (i j : Fin 16)
    (hI : I (ix2 t 0) = BitVec.ofNat 32 i.val) (hJ : J (ix2 t 0) = BitVec.ofNat 32 j.val) (a b : ℝ)
    (ha : ∑ k : Fin 256, (x (ix2 t k) : EReal) * r (ix2 k i) = (a : EReal)) (hb : ∑ k : Fin 256, (x (ix2 t k) : EReal) * r (ix2 k j) = (b : EReal)) (e : Fin 16) :
    k0_pay5 (F := Ideal) x r I J (ix2 t e)
      = (if e = i then (Cert.Moe.soft a b : EReal) else 0) + (if e = j then (Cert.Moe.soft b a : EReal) else 0) := by
  have s1 : score1 x r I (ix2 t 0) = (a : EReal) := by
    rw [score1_apply, hI]; simp only [ofNat_inj16, Finset.sum_ite_eq', Finset.mem_univ, if_true]; exact ha
  have s2 : score1 x r J (ix2 t 0) = (b : EReal) := by
    rw [score1_apply, hJ]; simp only [ofNat_inj16, Finset.sum_ite_eq', Finset.mem_univ, if_true]; exact hb
  obtain ⟨M, hM⟩ : ∃ M : ℝ, max (a : EReal) (b : EReal) = (M : EReal) := ⟨max a b, (EReal.coe_strictMono.monotone.map_max).symm⟩
  have e1 : ex1 (score1 x r I) (score1 x r I) (score1 x r J) (ix2 t 0) = Ideal.exp ((a : EReal) - (M : EReal)) := by
    rw [← hM, ← s1, ← s2]; rfl
  have e2 : ex1 (score1 x r J) (score1 x r I) (score1 x r J) (ix2 t 0) = Ideal.exp ((b : EReal) - (M : EReal)) := by
    rw [← hM, ← s1, ← s2]; rfl
  have hs := Cert.Moe.soft_pair a b M
  rw [pay5_eq, addf_apply, lay_apply, lay_apply, hI, hJ]
  simp only [ofNat_inj16]
  congr 1
  · rw [← hs.1, ← e1, ← e2]; rfl
  · rw [← hs.2, ← e1, ← e2]; rfl

end Cert.KernelIdeal.Moe
-- ==== Proof.KernelValue.lean ====
/-
The kernel's output read at an element: every expert's gate times what the expert gives the token.
-/
module

public import proofs.«01_k».proof.Proof.Terms
public import Idealize.ShloMosaic.Lib.VecWindow
public import Idealize.ShloMosaic.Lib.Pipeline.ValueKit.Geometry

@[expose] public section

noncomputable section

namespace Cert.KernelIdeal.Moe

open Cert.KernelIdeal Cert.KernelIdeal.Gen
open Idealize.ShloMosaic hiding ix0 ix1 ix2 ix3 ix4
open Idealize.ShloMosaic.ValueIdx
open Cert.Moe (quant colMax part soft)
open scoped BigOperators

/-! ## The loads -/

theorem rdI_apply (j : ℕ) (hj : j < 2) (h) (I : IVec S1024x2 32) (t : Fin 1024) :
    (rdI (F := Ideal) j h I : IVec S1024x1 32) (ix2 t 0) = I (ix2 t ⟨j, hj⟩) := by
  refine congrArg I (funext fun a => Fin.ext ?_)
  match a with
  | ⟨0, _⟩ => show 0 + 1 * t.val = t.val; omega
  | ⟨1, _⟩ => show j + 1 * 0 = j; omega

theorem rdE_apply (e : ℕ) (he : e < 4) (h) (E : FVec Ideal S4x256x512 .f32) (k : Fin 256) (c : Fin 512) :
    (rdE (F := Ideal) e h E : FVec Ideal S1x256x512 .f32) (ix3 0 k c) = E (ix3 ⟨e, he⟩ k c) := by
  refine congrArg E (funext fun a => Fin.ext ?_)
  match a with
  | ⟨0, _⟩ => show e + 1 * 0 = e; omega
  | ⟨1, _⟩ => show 0 + 1 * k.val = k.val; omega
  | ⟨2, _⟩ => show 0 + 1 * c.val = c.val; omega

theorem rdS_apply (j : ℕ) (hj : j < 4) (h) (S : FVec Ideal S4x4x512 .f32) (e : Fin 4) (c : Fin 512) :
    (rdS (F := Ideal) j h S : FVec Ideal S1x4x512 .f32) (ix3 0 e c) = S (ix3 ⟨j, hj⟩ e c) := by
  refine congrArg S (funext fun a => Fin.ext ?_)
  match a with
  | ⟨0, _⟩ => show j + 1 * 0 = j; omega
  | ⟨1, _⟩ => show 0 + 1 * e.val = e.val; omega
  | ⟨2, _⟩ => show 0 + 1 * c.val = c.val; omega

theorem rdQ_apply (j e : ℕ) (hj : j < 4) (he : e < 4) (h) (Q : IVec S4x4x256x512 8) (k : Fin 256) (c : Fin 512) :
    (rdQ (F := Ideal) j e h Q : IVec S1x1x256x512 8) (ix4 0 0 k c) = Q (ix4 ⟨j, hj⟩ ⟨e, he⟩ k c) := by
  refine congrArg Q (funext fun a => Fin.ext ?_)
  match a with
  | ⟨0, _⟩ => show j + 1 * 0 = j; omega
  | ⟨1, _⟩ => show e + 1 * 0 = e; omega
  | ⟨2, _⟩ => show 0 + 1 * k.val = k.val; omega
  | ⟨3, _⟩ => show 0 + 1 * c.val = c.val; omega

/-! ## The quantised weights and their scales -/

theorem pay2_apply (E : FVec Ideal S4x256x512 .f32) (e : Fin 4) (h : Fin 512) :
    k0_pay2 (F := Ideal) E (ix2 e h) = colMax fun k => (E (ix3 e k h) : EReal) := by
  unfold k0_pay2
  rw [maximumf_apply]
  refine congrArg₂ max ?_ rfl
  refine (Ideal.multiReduction_maximumf_single _ _ _ _ _ _).trans ?_
  show Finset.fold max (Ideal.ofBits .f32 0xFF800000#32) _ _ = _
  rw [Cert.Moe.bits_ninf]
  refine congrArg (fun f => Finset.fold max (⊥ : EReal) f (Finset.univ : Finset (Fin 256))) (funext fun k => ?_)
  show FloatOps.absf (k0_pay1 (F := Ideal) E _) = _
  rw [k0_pay1, shapeCast_self]
  have hl : reduces_S4x256x512_S4x512.lift (ix2 e h) k = ix3 e k h := by
    funext a; apply Fin.ext
    match a with
    | ⟨0, _⟩ => rfl
    | ⟨1, _⟩ => rfl
    | ⟨2, _⟩ => rfl
  rw [hl]; rfl

/-- The factor a column is quantised by, along the column. -/
def scl (E : FVec Ideal S4x256x512 .f32) : FVec Ideal S4x256x512 .f32 :=
  broadcastTo S4x256x512 (shapeCast S4x1x512 (divf (broadcast S4x512 (Scalar.ofBits .f32 0x42FE0000#32)) (k0_pay2 (F := Ideal) E)) shapeCasts_S4x512_S4x1x512) broadcasts_S4x1x512_S4x256x512

theorem scl_apply (E : FVec Ideal S4x256x512 .f32) (e : Fin 4) (k : Fin 256) (h : Fin 512) :
    scl E (ix3 e k h) = Ideal.div ((127 : ℝ) : EReal) (colMax fun k => (E (ix3 e k h) : EReal)) := by
  unfold scl
  rw [broadcastTo_apply _ _ _ (ix3 e 0 h) (fun a => by
    match a with
    | ⟨0, _⟩ => rfl
    | ⟨1, _⟩ => rfl
    | ⟨2, _⟩ => rfl), shapeCast_apply _ _ _ (ix2 e h) (by
    rw [Shape.rowMajor_val_two, Shape.rowMajor_val_three]; show e.val * 512 + h.val = (e.val * 1 + 0) * 512 + h.val; omega)]
  rw [divf_apply, pay2_apply, ← Cert.Moe.bits_127]
  rfl

theorem pay3_apply (E : FVec Ideal S4x256x512 .f32) (e : Fin 4) (k : Fin 256) (h : Fin 512) :
    k0_pay3 (F := Ideal) E (ix4 0 e k h)
      = Ideal.fptosi 8 (Ideal.liftRound Ideal.roundHalfEven ((E (ix3 e k h) : EReal) * Ideal.div ((127 : ℝ) : EReal) (colMax fun k => (E (ix3 e k h) : EReal)))) := by
  have key : k0_pay3 (F := Ideal) E = shapeCast S1x4x256x512 (fptosi 8 (roundeven (mulf E (scl E)))) shapeCasts_S4x256x512_S1x4x256x512 := by
    unfold k0_pay3 k0_pay1 scl; rw [shapeCast_self]
  rw [key, shapeCast_apply _ _ _ (ix3 e k h) (by
    rw [Shape.rowMajor_val_three, Shape.rowMajor_val_four]; show (e.val * 256 + k.val) * 512 + h.val = ((0 * 4 + e.val) * 256 + k.val) * 512 + h.val; omega)]
  show Ideal.fptosi 8 (Ideal.liftRound Ideal.roundHalfEven ((E (ix3 e k h) : EReal) * scl E (ix3 e k h))) = _
  rw [scl_apply]

theorem pay4_apply (E : FVec Ideal S4x256x512 .f32) (e : Fin 4) (h : Fin 512) :
    k0_pay4 (F := Ideal) E (ix3 0 e h) = (colMax fun k => (E (ix3 e k h) : EReal)) * ((1 / 127 : ℝ) : EReal) := by
  unfold k0_pay4
  rw [shapeCast_apply _ _ _ (ix2 e h) (by
    rw [Shape.rowMajor_val_two, Shape.rowMajor_val_three]; show e.val * 512 + h.val = (0 * 4 + e.val) * 512 + h.val; omega)]
  show k0_pay2 (F := Ideal) E (ix2 e h) * _ = _
  rw [pay2_apply]; rfl

end Cert.KernelIdeal.Moe
-- ==== Proof.KernelSum.lean ====
/-
The kernel's output at an element as one sum over the sixteen experts.
-/
module

public import proofs.«01_k».proof.Proof.KernelValue

@[expose] public section

noncomputable section

namespace Cert.KernelIdeal.Moe

open Cert.KernelIdeal Cert.KernelIdeal.Gen
open Idealize.ShloMosaic hiding ix0 ix1 ix2 ix3 ix4
open Idealize.ShloMosaic.ValueIdx
open Cert.Moe (quant colMax part soft)
open scoped BigOperators

variable (m : (ℓ : Loc nD τ sig) → Buf (Elt Ideal) ℓ) (c : Dev nD)

/-- Expert `e` of device `d`, counted over all the devices. -/
def expert (d e : Fin 4) : Fin 16 := ⟨4 * d.val + e.val, by omega⟩

theorem wd0 : ∀ c : Dev nD, ∀ e : Fin 4, wd c 0#32 (BitVec.ofNat 32 e.val) = BitVec.ofNat 32 (expert c e).val := by decide
theorem wd1 : ∀ c : Dev nD, ∀ e : Fin 4, wd c 1#32 (BitVec.ofNat 32 e.val) = BitVec.ofNat 32 (expert (sh 3 c) e).val := by decide
theorem wd2 : ∀ c : Dev nD, ∀ e : Fin 4, wd c 2#32 (BitVec.ofNat 32 e.val) = BitVec.ofNat 32 (expert (sh 2 c) e).val := by decide
theorem wd3 : ∀ c : Dev nD, ∀ e : Fin 4, wd c 3#32 (BitVec.ofNat 32 e.val) = BitVec.ofNat 32 (expert (sh 1 c) e).val := by decide

theorem sh_ne : ∀ c : Dev nD, sh 1 c ≠ c ∧ sh 2 c ≠ c ∧ sh 3 c ≠ c := by decide

/-- One expert's share of an output element: its gate times what it gives the token. -/
def share1 (G : Fin 16 → ℝ) (x : Fin 256 → EReal) (W : Fin 16 → Fin 256 → EReal) (c d e : Fin 4) : EReal :=
  (G (expert d e) : EReal) * part (decide (d = c)) x (W (expert d e))

theorem gsel_gate (w : BitVec 32) (g : FVec Ideal S1024x16 .f32) (t : Fin 1024) (G : Fin 16 → ℝ) (hG : ∀ e, g (ix2 t e) = (G e : EReal)) (i : Fin 16)
    (hw : w = BitVec.ofNat 32 i.val) : gsel w g (ix2 t 0) = (G i : EReal) := by
  rw [gsel_apply, hw]
  simp only [ofNat_inj16, Finset.sum_ite_eq', Finset.mem_univ, if_true]
  exact hG i

variable (t : Fin 1024) (h : Fin 512) (G : Fin 16 → ℝ) (x : Fin 256 → EReal) (W : Fin 16 → Fin 256 → EReal)

theorem own_share (hx : ∀ k, xb (F := Ideal) m c (ix2 t k) = x k) (hG : ∀ e, gates (F := Ideal) m c (ix2 t e) = (G e : EReal))
    (hW : ∀ d : Fin 4, ∀ e k, (ein (F := Ideal) m d : FVec Ideal S4x256x512 .f32) (ix3 e k h) = W (expert d e) k)
    (e : Fin 4) (w : BitVec 32) (hw : w = BitVec.ofNat 32 (expert c e).val) (hb) :
    ownT w (gates m c) (xb m c) (rdE e.val hb (ein m c)) (ix2 t h) = share1 G x W c c e := by
  rw [ownT_apply, gsel_gate w _ t G hG _ hw, mul_comm]
  unfold share1 part
  rw [if_pos (by simp)]
  congr 1
  refine Finset.sum_congr rfl fun k _ => ?_
  rw [hx]
  exact congrArg (x k * ·) ((rdE_apply e.val e.isLt hb _ k h).trans (hW c e k))

theorem sent_share (hx : ∀ k, xb (F := Ideal) m c (ix2 t k) = x k) (hf : ∀ k, ∃ r : ℝ, x k = r) (hG : ∀ e, gates (F := Ideal) m c (ix2 t e) = (G e : EReal))
    (hW : ∀ d : Fin 4, ∀ e k, (ein (F := Ideal) m d : FVec Ideal S4x256x512 .f32) (ix3 e k h) = W (expert d e) k)
    (d : Dev nD) (hd : d ≠ c) (j : Fin 4) (e : Fin 4) (he) (w : BitVec 32) (hw : w = BitVec.ofNat 32 (expert d e).val) (hs) (hq) :
    sentT e.val he w (gates m c) (xb m c) (Sc m j.val hs d) (Qc m j.val e.val hq d) (ix2 t h) = share1 G x W c d e := by
  rw [sentT_apply e.val he e.isLt, gsel_gate w _ t G hG _ hw]
  have hw' : (fun k => (ein (F := Ideal) m d : FVec Ideal S4x256x512 .f32) (ix3 e k h)) = W (expert d e) := funext fun k => hW d e k
  have hS : (Sc m j.val hs d : FVec Ideal S1x4x512 .f32) (ix3 0 e h) = colMax (W (expert d e)) * ((1 / 127 : ℝ) : EReal) := by
    refine (rdS_apply j.val j.isLt hs _ e h).trans ((pay4_apply (ein m d) e h).trans ?_)
    rw [← hw']
  have hQ : ∀ k, (Qc m j.val e.val hq d : IVec S1x1x256x512 8) (ix4 0 0 k h)
      = Ideal.fptosi 8 (Ideal.liftRound Ideal.roundHalfEven (W (expert d e) k * Ideal.div ((127 : ℝ) : EReal) (colMax (W (expert d e))))) := fun k => by
    refine (rdQ_apply j.val e.val j.isLt e.isLt hq _ k h).trans ((pay3_apply (ein m d) e k h).trans ?_)
    rw [← hw']
  have := Cert.Moe.sent_product hf (G (expert d e)) (Cert.Moe.colMax_pos (W (expert d e))) (Cert.Moe.le_colMax (W (expert d e)))
  unfold share1 part
  rw [if_neg (by simpa using hd), ← this]
  refine congrArg₂ (· * ·) (congrArg (· * (G (expert d e) : EReal)) ?_) hS
  refine Finset.sum_congr rfl fun k _ => ?_
  rw [hx, hQ]

theorem sum_back (S : Fin 4 → EReal) : ∀ c : Dev nD, S c + S (sh 3 c) + S (sh 2 c) + S (sh 1 c) = ∑ d : Fin 4, S d := by
  intro c
  rw [Fin.sum_univ_four]
  have : c = 0 ∨ c = 1 ∨ c = 2 ∨ c = 3 := by revert c; decide
  rcases this with rfl | rfl | rfl | rfl
  · show S 0 + S 3 + S 2 + S 1 = _; ac_rfl
  · show S 1 + S 0 + S 3 + S 2 = _; ac_rfl
  · show S 2 + S 1 + S 0 + S 3 = _; ac_rfl
  · show S 3 + S 2 + S 1 + S 0 = _; ac_rfl

theorem sum_expert (f : Fin 16 → EReal) : ∑ d : Fin 4, ∑ e : Fin 4, f (expert d e) = ∑ i : Fin 16, f i := by
  rw [← Fintype.sum_prod_type' (fun d e => f (expert d e))]
  refine Fintype.sum_equiv (finProdFinEquiv (m := 4) (n := 4)) _ _ fun p => congrArg f (Fin.ext ?_)
  show 4 * p.1.val + p.2.val = p.2.val + 4 * p.1.val
  omega

theorem A15_apply (hx : ∀ k, xb (F := Ideal) m c (ix2 t k) = x k) (hf : ∀ k, ∃ r : ℝ, x k = r) (hG : ∀ e, gates (F := Ideal) m c (ix2 t e) = (G e : EReal))
    (hW : ∀ d : Fin 4, ∀ e k, (ein (F := Ideal) m d : FVec Ideal S4x256x512 .f32) (ix3 e k h) = W (expert d e) k) :
    (A15 m c : FVec Ideal S1024x512 .f32) (ix2 t h) = ∑ i : Fin 16, (G i : EReal) * part (decide (i.val / 4 = c.val)) x (W i) := by
  have hn := sh_ne c
  have hS := sum_back (fun d => ∑ e : Fin 4, share1 G x W c d e) c
  have key : (A15 m c : FVec Ideal S1024x512 .f32) (ix2 t h) = ∑ d : Fin 4, ∑ e : Fin 4, share1 G x W c d e := by
    rw [← hS]
    rw [A15_eq, addf_apply, A14_eq, addf_apply, A13_eq, addf_apply, A12_eq, addf_apply, A11_eq, addf_apply, A10_eq, addf_apply, A9_eq, addf_apply, A8_eq,
      addf_apply, A7_eq, addf_apply, A6_eq, addf_apply, A5_eq, addf_apply, A4_eq, addf_apply, A3_eq, addf_apply, A2_eq, addf_apply, A1_eq, addf_apply, A0_eq]
    have o := fun e hw hb => own_share m c t h G x W hx hG hW e (wd c 0#32 (BitVec.ofNat 32 e.val)) hw hb
    have s1 := fun e he hw hs hq => sent_share m c t h G x W hx hf hG hW (sh 3 c) hn.2.2 1 e he (wd c 1#32 (BitVec.ofNat 32 e.val)) hw hs hq
    have s2 := fun e he hw hs hq => sent_share m c t h G x W hx hf hG hW (sh 2 c) hn.2.1 2 e he (wd c 2#32 (BitVec.ofNat 32 e.val)) hw hs hq
    have s3 := fun e he hw hs hq => sent_share m c t h G x W hx hf hG hW (sh 1 c) hn.1 3 e he (wd c 3#32 (BitVec.ofNat 32 e.val)) hw hs hq
    refine Eq.trans (congrArg₂ (· + ·) (congrArg₂ (· + ·) (congrArg₂ (· + ·) (congrArg₂ (· + ·) (congrArg₂ (· + ·) (congrArg₂ (· + ·) (congrArg₂ (· + ·) (congrArg₂ (· + ·)
      (congrArg₂ (· + ·) (congrArg₂ (· + ·) (congrArg₂ (· + ·) (congrArg₂ (· + ·) (congrArg₂ (· + ·) (congrArg₂ (· + ·) (congrArg₂ (· + ·)
      (o 0 (wd0 c 0) _) (o 1 (wd0 c 1) _)) (o 2 (wd0 c 2) _)) (o 3 (wd0 c 3) _))
      (s1 0 _ (wd1 c 0) _ _)) (s1 1 _ (wd1 c 1) _ _)) (s1 2 _ (wd1 c 2) _ _)) (s1 3 _ (wd1 c 3) _ _))
      (s2 0 _ (wd2 c 0) _ _)) (s2 1 _ (wd2 c 1) _ _)) (s2 2 _ (wd2 c 2) _ _)) (s2 3 _ (wd2 c 3) _ _))
      (s3 0 _ (wd3 c 0) _ _)) (s3 1 _ (wd3 c 1) _ _)) (s3 2 _ (wd3 c 2) _ _)) (s3 3 _ (wd3 c 3) _ _)) ?_
    simp only [Fin.sum_univ_four]
    ac_rfl
  have fin : ∑ d : Fin 4, ∑ e : Fin 4, share1 G x W c d e = ∑ i : Fin 16, (G i : EReal) * part (decide (i.val / 4 = c.val)) x (W i) := by
    rw [← sum_expert]
    refine Finset.sum_congr rfl fun d _ => Finset.sum_congr rfl fun e _ => ?_
    unfold share1
    have : decide (d = c) = decide ((expert d e).val / 4 = c.val) := by
      have : (expert d e).val / 4 = d.val := by show (4 * d.val + e.val) / 4 = d.val; have := e.isLt; omega
      rw [this]; exact decide_eq_decide.mpr Fin.ext_iff
    rw [this]
  exact key.trans fin

/-! ## The staged blocks are the arguments, the output array what the body leaves -/

theorem xin_eq : xin m c = m ((c.tc : Thread nD τ).loc main_arg0) := by
  funext i; exact congrArg (m ((c.tc : Thread nD τ).loc main_arg0)) (funext fun a => Fin.ext (by
    match a with
    | ⟨0, _⟩ => show 0 + 1 * (i 0).val = (i 0).val; omega
    | ⟨1, _⟩ => show 0 + 1 * (i 1).val = (i 1).val; omega))
theorem rin_eq : rin m c = m ((c.tc : Thread nD τ).loc main_arg1) := by
  funext i; exact congrArg (m ((c.tc : Thread nD τ).loc main_arg1)) (funext fun a => Fin.ext (by
    match a with
    | ⟨0, _⟩ => show 0 + 1 * (i 0).val = (i 0).val; omega
    | ⟨1, _⟩ => show 0 + 1 * (i 1).val = (i 1).val; omega))
theorem iin_eq : iin m c = m ((c.tc : Thread nD τ).loc main_arg2) := by
  funext i; exact congrArg (m ((c.tc : Thread nD τ).loc main_arg2)) (funext fun a => Fin.ext (by
    match a with
    | ⟨0, _⟩ => show 0 + 1 * (i 0).val = (i 0).val; omega
    | ⟨1, _⟩ => show 0 + 1 * (i 1).val = (i 1).val; omega))
theorem ein_eq : ein m c = m ((c.tc : Thread nD τ).loc main_arg3) := by
  funext i; exact congrArg (m ((c.tc : Thread nD τ).loc main_arg3)) (funext fun a => Fin.ext (by
    match a with
    | ⟨0, _⟩ => show 0 + 1 * (i 0).val = (i 0).val; omega
    | ⟨1, _⟩ => show 0 + 1 * (i 1).val = (i 1).val; omega
    | ⟨2, _⟩ => show 0 + 1 * (i 2).val = (i 2).val; omega))

theorem final_out (ρ : Dev nD → PrngReg) : finalA m ρ c 4 = A15 m c := by
  funext i
  refine ((dats m ρ 0 c).arrAt_emb_eq_after_last 4 t0_0 (by decide +kernel) i).trans ?_
  rfl

end Cert.KernelIdeal.Moe
-- ==== Proof.RefValue.lean ====
/-
The reference's result, read at an element: each token's two gates times what its two experts give its row.
-/
module

public import proofs.«01_k».proof.Proof.Gen.ReferenceIdeal.Run
public import proofs.«01_k».proof.Proof.Maths
public import Idealize.ShloMosaic.Lib.ValueIdxCore
public import Idealize.ShloMosaic.Lib.StackMember
public import Idealize.ShloMosaic.Lib.IdealHost
public import Idealize.ShloMosaic.Lib.Pointwise
public import Idealize.ShloMosaic.Lib.Routing.Words
public import Idealize.ShloMosaic.Lib.Pipeline.Value

@[expose] public section

noncomputable section

namespace Cert.ReferenceIdeal.Moe

open Cert.ReferenceIdeal Cert.ReferenceIdeal.Gen Cert.Moe
open Idealize.ShloMosaic hiding ix0 ix1 ix2 ix3 ix4
open Idealize.SL.Sem
open Idealize.ShloMosaic.ValueIdx
open scoped BigOperators

/-! ## The term, in pieces -/

/-- A column of one number a token, over the sixteen experts. -/
def over (v : FVec Ideal S4096 .f32) : FVec Ideal S4096x16 .f32 :=
  broadcastInDim S4096x16 ![0, 1] bcast_S4096x1_S4096x16_0_1 (broadcastInDim S4096x1 ![0] bcast_S4096_S4096x1_0 v)
def logit (x : FVec Ideal S4096x256 .f32) (r : FVec Ideal S256x16 .f32) : FVec Ideal S4096x16 .f32 :=
  Host.dotGeneral dot_S4096x256_S256x16_S4096x16_1_0_0_1_n_n none x r
def expo (l : FVec Ideal S4096x16 .f32) : FVec Ideal S4096x16 .f32 :=
  Host.exp (subf l (over (Host.reduce FloatOps.maximumf l (constant S_ .f32 0xFF800000#32) reducesTo_S4096x16_S4096_d1 h_S_)))
def prob (e : FVec Ideal S4096x16 .f32) : FVec Ideal S4096x16 .f32 :=
  Host.divf e (over (Host.reduceAdd e (constant S_ .f32 0x00000000#32) reducesTo_S4096x16_S4096_d1 h_S_))
def wrap2 (i : IVec S4096x2 32) : IVec S4096x2x1 32 :=
  shapeCast _ (select (cmpi .slt i (broadcastInDim S4096x2 ![] bcast_S_S4096x2 (constantI S_ 32 0#32)))
    (addi i (broadcastInDim S4096x2 ![] bcast_S_S4096x2 (constantI S_ 32 16#32))) i) shapeCasts_S4096x2_S4096x2x1
def taken (p : FVec Ideal S4096x16 .f32) (i : IVec S4096x2 32) : FVec Ideal S4096x2 .f32 :=
  Host.gather gather_S4096x16_S4096x2x1_S4096x2_n_1_0_0_1_2_11 p (wrap2 i)
def gate (t : FVec Ideal S4096x2 .f32) : FVec Ideal S4096x2 .f32 :=
  Host.divf t (broadcastInDim S4096x2 ![0, 1] bcast_S4096x1_S4096x2_0_1 (broadcastInDim S4096x1 ![0] bcast_S4096_S4096x1_0
    (Host.reduceAdd t (constant S_ .f32 0x00000000#32) reducesTo_S4096x2_S4096_d1 h_S_)))
def amax (w : FVec Ideal S16x256x512 .f32) : FVec Ideal S16x1x512 .f32 :=
  maximumf (broadcastInDim S16x1x512 ![0, 2] bcast_S16x512_S16x1x512_0_2
      (Host.reduce FloatOps.maximumf (Host.absf w) (constant S_ .f32 0xFF800000#32) reducesTo_S16x256x512_S16x512_d1 h_S_))
    (broadcastInDim S16x1x512 ![] bcast_S_S16x1x512 (constant S_ .f32 0x1E3CE508#32))
def along (v : FVec Ideal S16x1x512 .f32) : FVec Ideal S16x256x512 .f32 :=
  broadcastInDim S16x256x512 ![0, 1, 2] bcast_S16x1x512_S16x256x512_0_1_2 v
def coded (w : FVec Ideal S16x256x512 .f32) (a : FVec Ideal S16x1x512 .f32) : FVec Ideal S16x256x512 .f32 :=
  minimumf (broadcastInDim S16x256x512 ![] bcast_S_S16x256x512 (id (constant S_ .f32 0x42FE0000#32)))
    (maximumf (broadcastInDim S16x256x512 ![] bcast_S_S16x256x512 (id (constant S_ .f32 0xC2FE0000#32)))
      (Host.roundeven (mulf w (along (Host.divf (broadcastInDim S16x1x512 ![] bcast_S_S16x1x512 (constant S_ .f32 0x42FE0000#32)) a)))))
def back (w : FVec Ideal S16x256x512 .f32) (a : FVec Ideal S16x1x512 .f32) : FVec Ideal S16x256x512 .f32 :=
  mulf (coded w a) (along (Host.divf a (broadcastInDim S16x1x512 ![] bcast_S_S16x1x512 (constant S_ .f32 0x42FE0000#32))))
def times (x : FVec Ideal S4096x256 .f32) (w : FVec Ideal S16x256x512 .f32) : FVec Ideal S4096x16x512 .f32 :=
  Host.dotGeneral dot_S4096x256_S16x256x512_S4096x16x512_1_1_0_02_n_n none x w
def home : IVec S4096x16 1 :=
  cmpi .eq (broadcastInDim S4096x16 ![0, 1] bcast_S4096x1_S4096x16_0_1 (broadcastInDim S4096x1 ![0] bcast_S4096_S4096x1_0
      (Host.divsi (iotaInDim S4096 32 0) (broadcastInDim S4096 ![] bcast_S_S4096 (constantI S_ 32 1024#32)))))
    (broadcastInDim S4096x16 ![0, 1] bcast_S1x16_S4096x16_0_1 (broadcastInDim S1x16 ![1] bcast_S16_S1x16_1
      (Host.divsi (iotaInDim S16 32 0) (broadcastInDim S16 ![] bcast_S_S16 (constantI S_ 32 4#32)))))
def each (x : FVec Ideal S4096x256 .f32) (w : FVec Ideal S16x256x512 .f32) : FVec Ideal S4096x16x512 .f32 :=
  select (broadcastInDim S4096x16x512 ![0, 1, 2] bcast_S4096x16x1_S4096x16x512_0_1_2
    (broadcastInDim S4096x16x1 ![0, 1] bcast_S4096x16_S4096x16x1_0_1 home)) (times x w) (times x (back w (amax w)))
def up3 {α : Type} (i : S4096x2.Idx → α) : S4096x2x1.Idx → α := broadcastInDim S4096x2x1 ![0, 1] bcast_S4096x2_S4096x2x1_0_1 i
def wrap3 (j : IVec S4096x2x1 32) : IVec S4096x2x1 32 :=
  select (cmpi .slt j (broadcastInDim S4096x2x1 ![] bcast_S_S4096x2x1 (constantI S_ 32 0#32)))
    (addi j (broadcastInDim S4096x2x1 ![] bcast_S_S4096x2x1 (constantI S_ 32 16#32))) j
def out (g : FVec Ideal S4096x2 .f32) (y : FVec Ideal S4096x16x512 .f32) (i : IVec S4096x2 32) : FVec Ideal S4096x512 .f32 :=
  Host.reduceAdd (mulf (broadcastInDim S4096x2x512 ![0, 1, 2] bcast_S4096x2x1_S4096x2x512_0_1_2 (up3 g))
    (Host.gather gather_S4096x16x512_S4096x2x1_S4096x2x512_2_1_0_0_1_2_11512 y (wrap3 (up3 i))))
    (constant S_ .f32 0x00000000#32) reducesTo_S4096x2x512_S4096x512_d1 h_S_

/-- The whole result of the four arguments. -/
def whole (x : FVec Ideal S4096x256 .f32) (r : FVec Ideal S256x16 .f32) (i : IVec S4096x2 32) (w : FVec Ideal S16x256x512 .f32) :
    FVec Ideal S4096x512 .f32 :=
  out (gate (taken (prob (expo (logit x r))) i)) (each x w) i

set_option maxRecDepth 8192 in
theorem res_eq (m : (ℓ : Loc nD τ sig) → Buf (Elt Ideal) ℓ) (c : Dev nD) :
    Value.res_main_v50 m c = whole (m ((c.tc : Thread nD τ).loc main_arg0)) (m ((c.tc : Thread nD τ).loc main_arg1))
      (m ((c.tc : Thread nD τ).loc main_arg2)) (m ((c.tc : Thread nD τ).loc main_arg3)) := rfl

/-! ## The indices -/

theorem wrap_word (E : Fin 16) :
    Scalar.select (IntOp.cmpi .slt (BitVec.ofNat 32 E.val) 0#32) (IntOp.addi (BitVec.ofNat 32 E.val) 16#32) (BitVec.ofNat 32 E.val) = BitVec.ofNat 32 E.val := by
  revert E; decide
theorem word_row (E : Fin 16) : min (BitVec.ofNat 32 E.val).toInt.toNat 15 = E.val := by revert E; decide

theorem wrap2_apply (i : IVec S4096x2 32) (T : Fin 4096) (k : Fin 2) (E : Fin 16) (h : i (ix2 T k) = BitVec.ofNat 32 E.val) :
    wrap2 i (ix3 T k 0) = BitVec.ofNat 32 E.val := by
  unfold wrap2
  rw [shapeCast_apply _ _ _ (ix2 T k) (by rw [Shape.rowMajor_val_two, Shape.rowMajor_val_three]; show T.val * 2 + k.val = (T.val * 2 + k.val) * 1 + 0; omega)]
  show Scalar.select (IntOp.cmpi .slt (i (ix2 T k)) 0#32) (IntOp.addi (i (ix2 T k)) 16#32) (i (ix2 T k)) = _
  rw [h, wrap_word]

theorem up3_apply {α : Type} (i : S4096x2.Idx → α) (T : Fin 4096) (k : Fin 2) : up3 i (ix3 T k 0) = i (ix2 T k) :=
  broadcastInDim_apply _ _ _ _ _ fun a => by
    match a with
    | ⟨0, _⟩ => rfl
    | ⟨1, _⟩ => rfl

theorem wrap3_apply (i : IVec S4096x2 32) (T : Fin 4096) (k : Fin 2) (E : Fin 16) (h : i (ix2 T k) = BitVec.ofNat 32 E.val) :
    wrap3 (up3 i) (ix3 T k 0) = BitVec.ofNat 32 E.val := by
  show Scalar.select (IntOp.cmpi .slt (up3 i (ix3 T k 0)) 0#32) (IntOp.addi (up3 i (ix3 T k 0)) 16#32) (up3 i (ix3 T k 0)) = _
  rw [up3_apply, h, wrap_word]

theorem take_apply (p : FVec Ideal S4096x16 .f32) (idx : IVec S4096x2x1 32) (T : Fin 4096) (k : Fin 2) (E : Fin 16)
    (h : idx (ix3 T k 0) = BitVec.ofNat 32 E.val) :
    Host.gather gather_S4096x16_S4096x2x1_S4096x2_n_1_0_0_1_2_11 p idx (ix2 T k) = p (ix2 T E) := by
  unfold Host.gather
  congr 1
  funext a
  refine Fin.ext ?_
  show (gather_S4096x16_S4096x2x1_S4096x2_n_1_0_0_1_2_11).start (ix2 T k) idx a + (gather_S4096x16_S4096x2x1_S4096x2_n_1_0_0_1_2_11).batchCoord (ix2 T k) a
    + (gather_S4096x16_S4096x2x1_S4096x2_n_1_0_0_1_2_11).offCoord (ix2 T k) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (gather_S4096x16_S4096x2x1_S4096x2_n_1_0_0_1_2_11).operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gather_S4096x16_S4096x2x1_S4096x2_n_1_0_0_1_2_11).startIndexMap from List.mem_singleton.mpr rfl)]
    have hsi : (gather_S4096x16_S4096x2x1_S4096x2_n_1_0_0_1_2_11).siIdx (ix2 T k)
        ⟨List.idxOf (1 : Fin 2) (gather_S4096x16_S4096x2x1_S4096x2_n_1_0_0_1_2_11).startIndexMap,
          List.idxOf_lt_length_iff.2 (List.mem_singleton.mpr rfl)⟩ = ix3 T k 0 := by
      funext b; refine Fin.ext ?_
      match b with
      | ⟨0, _⟩ => rfl
      | ⟨1, _⟩ => rfl
      | ⟨2, _⟩ => rfl
    rw [hsi, h]
    exact word_row E

theorem rows_apply (y : FVec Ideal S4096x16x512 .f32) (idx : IVec S4096x2x1 32) (T : Fin 4096) (k : Fin 2) (c : Fin 512) (E : Fin 16)
    (h : idx (ix3 T k 0) = BitVec.ofNat 32 E.val) :
    Host.gather gather_S4096x16x512_S4096x2x1_S4096x2x512_2_1_0_0_1_2_11512 y idx (ix3 T k c) = y (ix3 T E c) := by
  unfold Host.gather
  congr 1
  funext a
  refine Fin.ext ?_
  show (gather_S4096x16x512_S4096x2x1_S4096x2x512_2_1_0_0_1_2_11512).start (ix3 T k c) idx a + (gather_S4096x16x512_S4096x2x1_S4096x2x512_2_1_0_0_1_2_11512).batchCoord (ix3 T k c) a
    + (gather_S4096x16x512_S4096x2x1_S4096x2x512_2_1_0_0_1_2_11512).offCoord (ix3 T k c) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ (gather_S4096x16x512_S4096x2x1_S4096x2x512_2_1_0_0_1_2_11512).operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (gather_S4096x16x512_S4096x2x1_S4096x2x512_2_1_0_0_1_2_11512).startIndexMap from List.mem_singleton.mpr rfl)]
    have hsi : (gather_S4096x16x512_S4096x2x1_S4096x2x512_2_1_0_0_1_2_11512).siIdx (ix3 T k c)
        ⟨List.idxOf (1 : Fin 3) (gather_S4096x16x512_S4096x2x1_S4096x2x512_2_1_0_0_1_2_11512).startIndexMap,
          List.idxOf_lt_length_iff.2 (List.mem_singleton.mpr rfl)⟩ = ix3 T k 0 := by
      funext b; refine Fin.ext ?_
      match b with
      | ⟨0, _⟩ => rfl
      | ⟨1, _⟩ => rfl
      | ⟨2, _⟩ => rfl
    rw [hsi, h]
    exact word_row E
  · rw [GatherDims.batchCoord_eq_zero _ _ _ (fun h => absurd (List.mem_singleton.mp h) (by decide))]
    have h0 : (gather_S4096x16x512_S4096x2x1_S4096x2x512_2_1_0_0_1_2_11512).start (ix3 T k c) idx 2 = 0 := by
      unfold GatherDims.start
      rw [dif_neg (show (2 : Fin 3) ∉ (gather_S4096x16x512_S4096x2x1_S4096x2x512_2_1_0_0_1_2_11512).startIndexMap from fun h => absurd (List.mem_singleton.mp h) (by decide))]
    rw [h0]
    simp only [Nat.zero_add, Nat.add_zero]
    unfold GatherDims.offCoord
    rw [dif_pos ((GatherDims.mem_sKept _ _).mpr ⟨fun h => absurd (List.mem_singleton.mp h) (by decide), fun h => absurd (List.mem_singleton.mp h) (by decide)⟩)]
    rfl

/-! ## The gates -/

theorem over_apply (v : FVec Ideal S4096 .f32) (T : Fin 4096) (e : Fin 16) : over v (ix2 T e) = v (ix1 T) := by
  unfold over
  rw [broadcastInDim_apply _ _ _ _ (ix2 T 0) (fun a => by
    match a with
    | ⟨0, _⟩ => rfl
    | ⟨1, _⟩ => rfl)]
  exact broadcastInDim_apply _ _ _ _ _ fun a => by
    match a with
    | ⟨0, _⟩ => rfl

theorem logit_apply (x : FVec Ideal S4096x256 .f32) (r : FVec Ideal S256x16 .f32) (T : Fin 4096) (e : Fin 16) :
    logit x r (ix2 T e) = ∑ k : Fin 256, x (ix2 T k) * r (ix2 k e) :=
  StackMember.dotGeneral_plain_apply (m := 4096) (n := 16) (k := 256) none x r T e

theorem fold_real (s : Fin 16 → ℝ) : ∃ M : ℝ, (Finset.univ : Finset (Fin 16)).fold max ⊥ (fun e => (s e : EReal)) = (M : EReal) := by
  refine ⟨_, (EReal.coe_toReal (ne_of_lt ?_) (ne_of_gt ?_)).symm⟩
  · exact (Finset.fold_max_lt _).mpr ⟨bot_lt_top, fun e _ => EReal.coe_lt_top _⟩
  · exact lt_of_lt_of_le (EReal.bot_lt_coe (s 0)) ((Finset.le_fold_max _).mpr (Or.inr ⟨0, Finset.mem_univ _, le_rfl⟩))

theorem max16_apply (l : FVec Ideal S4096x16 .f32) (T : Fin 4096) :
    Host.reduce FloatOps.maximumf l (constant S_ .f32 0xFF800000#32) reducesTo_S4096x16_S4096_d1 h_S_ (ix1 T)
      = (Finset.univ : Finset (Fin 16)).fold max ⊥ fun e => l (ix2 T e) := by
  have h : S4096x16.Reduces [1] S4096 := by decide
  refine (Host.reduce_eq_fold_single (FloatOps.maximumf (F := Ideal) (φ := .f32)) l _ _ h _ _).trans ?_
  show (Finset.univ : Finset (Fin 16)).fold max (Ideal.ofBits .f32 0xFF800000#32) (l ∘ h.lift (ix1 T)) = _
  rw [bits_ninf]
  congr 1
  funext e
  refine congrArg l ?_
  funext a; apply Fin.ext
  match a with
  | ⟨0, _⟩ => rfl
  | ⟨1, _⟩ => rfl

theorem sum16_apply (l : FVec Ideal S4096x16 .f32) (T : Fin 4096) :
    Host.reduceAdd l (constant S_ .f32 0x00000000#32) reducesTo_S4096x16_S4096_d1 h_S_ (ix1 T) = ∑ e : Fin 16, l (ix2 T e) := by
  have h : S4096x16.Reduces [1] S4096 := by decide
  refine (Ideal.hostReduceAdd_single reducesTo_S4096x16_S4096_d1 h l _ _).trans ?_
  show Ideal.ofBits .f32 0x00000000#32 + ∑ e : Fin 16, _ = _
  rw [Ideal.ofBits_zero_f32, zero_add]
  refine Finset.sum_congr rfl fun e _ => congrArg l ?_
  funext a; apply Fin.ext
  match a with
  | ⟨0, _⟩ => rfl
  | ⟨1, _⟩ => rfl

theorem sum2_apply (l : FVec Ideal S4096x2 .f32) (T : Fin 4096) :
    Host.reduceAdd l (constant S_ .f32 0x00000000#32) reducesTo_S4096x2_S4096_d1 h_S_ (ix1 T) = l (ix2 T 0) + l (ix2 T 1) := by
  have h : S4096x2.Reduces [1] S4096 := by decide
  refine (Ideal.hostReduceAdd_single reducesTo_S4096x2_S4096_d1 h l _ _).trans ?_
  show Ideal.ofBits .f32 0x00000000#32 + ∑ e : Fin 2, _ = _
  rw [Ideal.ofBits_zero_f32, zero_add, Fin.sum_univ_two]
  congr 1
  all_goals
    refine congrArg l ?_
    funext a; apply Fin.ext
    match a with
    | ⟨0, _⟩ => rfl
    | ⟨1, _⟩ => rfl

theorem prob_apply (l : FVec Ideal S4096x16 .f32) (T : Fin 4096) (s : Fin 16 → ℝ) (hs : ∀ e, l (ix2 T e) = (s e : EReal)) :
    ∃ M D : ℝ, 0 < D ∧ ∀ e, prob (expo l) (ix2 T e) = Ideal.div (Ideal.exp ((s e : EReal) - (M : EReal))) (D : EReal) := by
  obtain ⟨M, hM⟩ := fold_real s
  have he : ∀ e, expo l (ix2 T e) = Ideal.exp ((s e : EReal) - (M : EReal)) := fun e => by
    show Ideal.exp (l (ix2 T e) - over _ (ix2 T e)) = _
    rw [over_apply, max16_apply]
    simp only [hs, hM]
  refine ⟨M, ∑ e, Real.exp (s e - M), Finset.sum_pos (fun e _ => Real.exp_pos _) Finset.univ_nonempty, fun e => ?_⟩
  unfold prob
  rw [hostDivf_apply, over_apply, sum16_apply, coe_sum]
  simp only [he]
  congr 1

theorem gate_apply (t : FVec Ideal S4096x2 .f32) (T : Fin 4096) (k : Fin 2) :
    gate t (ix2 T k) = Ideal.div (t (ix2 T k)) (t (ix2 T 0) + t (ix2 T 1)) := by
  unfold gate
  rw [hostDivf_apply, broadcastInDim_apply _ _ _ _ (ix2 T 0) (fun a => by
    match a with
    | ⟨0, _⟩ => rfl
    | ⟨1, _⟩ => rfl), broadcastInDim_apply _ _ _ _ (ix1 T) (fun a => by
    match a with
    | ⟨0, _⟩ => rfl), sum2_apply]

/-- The two gates of a token are the softmax of its two experts' scores. -/
theorem gates_two (l : FVec Ideal S4096x16 .f32) (I : IVec S4096x2 32) (T : Fin 4096) (s : Fin 16 → ℝ) (hs : ∀ e, l (ix2 T e) = (s e : EReal))
    (i j : Fin 16) (hi : I (ix2 T 0) = BitVec.ofNat 32 i.val) (hj : I (ix2 T 1) = BitVec.ofNat 32 j.val) :
    gate (taken (prob (expo l)) I) (ix2 T 0) = (soft (s i) (s j) : EReal) ∧ gate (taken (prob (expo l)) I) (ix2 T 1) = (soft (s j) (s i) : EReal) := by
  obtain ⟨M, D, hD, hp⟩ := prob_apply l T s hs
  have t0 : taken (prob (expo l)) I (ix2 T 0) = Ideal.div (Ideal.exp ((s i : EReal) - (M : EReal))) (D : EReal) :=
    (take_apply _ _ T 0 i (wrap2_apply I T 0 i hi)).trans (hp i)
  have t1 : taken (prob (expo l)) I (ix2 T 1) = Ideal.div (Ideal.exp ((s j : EReal) - (M : EReal))) (D : EReal) :=
    (take_apply _ _ T 1 j (wrap2_apply I T 1 j hj)).trans (hp j)
  rw [gate_apply, gate_apply, t0, t1]
  exact ⟨soft_norm _ _ _ _ hD, by rw [add_comm]; exact soft_norm _ _ _ _ hD⟩

/-! ## The experts -/

theorem along_apply (v : FVec Ideal S16x1x512 .f32) (E : Fin 16) (k : Fin 256) (h : Fin 512) : along v (ix3 E k h) = v (ix3 E 0 h) :=
  broadcastInDim_apply _ _ _ _ _ fun a => by
    match a with
    | ⟨0, _⟩ => rfl
    | ⟨1, _⟩ => rfl
    | ⟨2, _⟩ => rfl

theorem amax_apply (w : FVec Ideal S16x256x512 .f32) (E : Fin 16) (h : Fin 512) :
    amax w (ix3 E 0 h) = colMax fun k => w (ix3 E k h) := by
  unfold amax colMax
  rw [maximumf_apply, broadcastInDim_apply _ _ _ _ (ix2 E h) (fun a => by
    match a with
    | ⟨0, _⟩ => rfl
    | ⟨1, _⟩ => rfl)]
  refine congrArg₂ max ?_ rfl
  have hr : S16x256x512.Reduces [1] S16x512 := by decide
  refine (Host.reduce_eq_fold_single (FloatOps.maximumf (F := Ideal) (φ := .f32)) (Host.absf w) _ _ hr _ _).trans ?_
  show (Finset.univ : Finset (Fin 256)).fold max (Ideal.ofBits .f32 0xFF800000#32) (Host.absf w ∘ hr.lift (ix2 E h)) = _
  rw [bits_ninf]
  congr 1
  funext k
  have : hr.lift (ix2 E h) k = ix3 E k h := by
    funext a; apply Fin.ext
    match a with
    | ⟨0, _⟩ => rfl
    | ⟨1, _⟩ => rfl
    | ⟨2, _⟩ => rfl
  show Host.absf w (hr.lift (ix2 E h) k) = _
  rw [this]
  rfl

theorem back_apply (w : FVec Ideal S16x256x512 .f32) (E : Fin 16) (k : Fin 256) (h : Fin 512) :
    back w (amax w) (ix3 E k h)
      = quant (w (ix3 E k h)) (colMax fun k => w (ix3 E k h)) * Ideal.div (colMax fun k => w (ix3 E k h)) ((127 : ℝ) : EReal) := by
  unfold back
  rw [mulf_apply, along_apply, hostDivf_apply, amax_apply]
  have hc : coded w (amax w) (ix3 E k h) = quant (w (ix3 E k h)) (colMax fun k => w (ix3 E k h)) := by
    unfold coded
    rw [minimumf_apply, maximumf_apply, Host.roundeven_apply, mulf_apply, along_apply, hostDivf_apply, amax_apply]
    show min (Ideal.ofBits .f32 0x42FE0000#32) (max (Ideal.ofBits .f32 0xC2FE0000#32)
      (Ideal.liftRound Ideal.roundHalfEven (w (ix3 E k h) * Ideal.div (Ideal.ofBits .f32 0x42FE0000#32) _))) = _
    rw [bits_127, bits_m127]
    rfl
  rw [hc]
  show _ * Ideal.div _ (Ideal.ofBits .f32 0x42FE0000#32) = _
  rw [bits_127]

theorem times_apply (x : FVec Ideal S4096x256 .f32) (w : FVec Ideal S16x256x512 .f32) (T : Fin 4096) (E : Fin 16) (h : Fin 512) :
    times x w (ix3 T E h) = ∑ k : Fin 256, x (ix2 T k) * w (ix3 E k h) := by
  unfold times
  show FloatOps.dotGeneral _ _ _ x w (ix3 T E h) = _
  rw [Ideal.dotGeneral_apply, ← Equiv.sum_comp (contrEquiv1 dot_S4096x256_S16x256x512_S4096x16x512_1_1_0_02_n_n 256 rfl rfl).symm]
  refine Finset.sum_congr rfl fun k _ => ?_
  have hk := contrEquiv1_symm_val dot_S4096x256_S16x256x512_S4096x16x512_1_1_0_02_n_n 256 rfl rfl k
  have l : dot_S4096x256_S16x256x512_S4096x16x512_1_1_0_02_n_n.lhsIdx (ix3 T E h) ((contrEquiv1 _ 256 rfl rfl).symm k) = ix2 T k := by
    funext a; apply Fin.ext
    match a with
    | ⟨0, _⟩ => rfl
    | ⟨1, _⟩ => exact hk
  have r : dot_S4096x256_S16x256x512_S4096x16x512_1_1_0_02_n_n.rhsIdx (ix3 T E h) ((contrEquiv1 _ 256 rfl rfl).symm k) = ix3 E k h := by
    funext a; apply Fin.ext
    match a with
    | ⟨0, _⟩ => rfl
    | ⟨1, _⟩ => exact hk
    | ⟨2, _⟩ => rfl
  rw [l, r]

theorem home_apply (T : Fin 4096) (E : Fin 16) : home (ix2 T E) = if E.val / 4 = T.val / 1024 then 1#1 else 0#1 := by
  have h1 : broadcastInDim S4096x16 ![0, 1] bcast_S4096x1_S4096x16_0_1 (broadcastInDim S4096x1 ![0] bcast_S4096_S4096x1_0
      (Host.divsi (iotaInDim S4096 32 0) (broadcastInDim S4096 ![] bcast_S_S4096 (constantI S_ 32 1024#32)))) (ix2 T E)
        = BitVec.ofNat 32 (T.val / 1024) := by
    rw [broadcastInDim_apply _ _ _ _ (ix2 T 0) (fun a => by
      match a with
      | ⟨0, _⟩ => rfl
      | ⟨1, _⟩ => rfl), broadcastInDim_apply _ _ _ _ (ix1 T) (fun a => by
      match a with
      | ⟨0, _⟩ => rfl)]
    exact Routing.divsi_word .host (a := T.val) (b := 1024) (by have := T.isLt; omega) (by norm_num) (by norm_num)
  have h2 : broadcastInDim S4096x16 ![0, 1] bcast_S1x16_S4096x16_0_1 (broadcastInDim S1x16 ![1] bcast_S16_S1x16_1
      (Host.divsi (iotaInDim S16 32 0) (broadcastInDim S16 ![] bcast_S_S16 (constantI S_ 32 4#32)))) (ix2 T E) = BitVec.ofNat 32 (E.val / 4) := by
    rw [broadcastInDim_apply _ _ _ _ (ix2 0 E) (fun a => by
      match a with
      | ⟨0, _⟩ => rfl
      | ⟨1, _⟩ => rfl), broadcastInDim_apply _ _ _ _ (ix1 E) (fun a => by
      match a with
      | ⟨0, _⟩ => rfl)]
    exact Routing.divsi_word .host (a := E.val) (b := 4) (by have := E.isLt; omega) (by norm_num) (by norm_num)
  unfold home
  show IntOp.cmpi .eq _ _ = _
  rw [h1, h2, WordCmp.cmpi_eq_eq]
  have : (BitVec.ofNat 32 (T.val / 1024) = BitVec.ofNat 32 (E.val / 4)) ↔ E.val / 4 = T.val / 1024 := by
    have := T.isLt; have := E.isLt
    constructor
    · intro h
      have h := congrArg BitVec.toNat h
      rw [BitVec.toNat_ofNat, BitVec.toNat_ofNat, Nat.mod_eq_of_lt (by omega), Nat.mod_eq_of_lt (by omega)] at h
      exact h.symm
    · intro h; rw [h]
  by_cases h : E.val / 4 = T.val / 1024 <;> simp [this, h]

theorem each_apply (x : FVec Ideal S4096x256 .f32) (w : FVec Ideal S16x256x512 .f32) (T : Fin 4096) (E : Fin 16) (h : Fin 512) :
    each x w (ix3 T E h) = part (decide (E.val / 4 = T.val / 1024)) (fun k => x (ix2 T k)) (fun k => w (ix3 E k h)) := by
  unfold each part
  rw [select_apply, broadcastInDim_apply _ _ _ _ (ix3 T E 0) (fun a => by
    match a with
    | ⟨0, _⟩ => rfl
    | ⟨1, _⟩ => rfl
    | ⟨2, _⟩ => rfl), broadcastInDim_apply _ _ _ _ (ix2 T E) (fun a => by
    match a with
    | ⟨0, _⟩ => rfl
    | ⟨1, _⟩ => rfl), home_apply, times_apply, times_apply]
  simp only [back_apply]
  by_cases hh : E.val / 4 = T.val / 1024
  · simp only [hh, if_true, decide_true]; rfl
  · simp only [hh, if_false, decide_false]; rfl

/-! ## The result -/

theorem out_apply (g : FVec Ideal S4096x2 .f32) (y : FVec Ideal S4096x16x512 .f32) (I : IVec S4096x2 32) (T : Fin 4096) (h : Fin 512)
    (i j : Fin 16) (hi : I (ix2 T 0) = BitVec.ofNat 32 i.val) (hj : I (ix2 T 1) = BitVec.ofNat 32 j.val) :
    out g y I (ix2 T h) = g (ix2 T 0) * y (ix3 T i h) + g (ix2 T 1) * y (ix3 T j h) := by
  unfold out
  have hr : S4096x2x512.Reduces [1] S4096x512 := by decide
  refine (Ideal.hostReduceAdd_single reducesTo_S4096x2x512_S4096x512_d1 hr _ _ _).trans ?_
  have term : ∀ (k : Fin 2) (E : Fin 16), I (ix2 T k) = BitVec.ofNat 32 E.val →
      mulf (broadcastInDim S4096x2x512 ![0, 1, 2] bcast_S4096x2x1_S4096x2x512_0_1_2 (up3 g))
        (Host.gather gather_S4096x16x512_S4096x2x1_S4096x2x512_2_1_0_0_1_2_11512 y (wrap3 (up3 I))) (hr.lift (ix2 T h) k)
        = g (ix2 T k) * y (ix3 T E h) := fun k E hE => by
    have : hr.lift (ix2 T h) k = ix3 T k h := by
      funext a; apply Fin.ext
      match a with
      | ⟨0, _⟩ => rfl
      | ⟨1, _⟩ => rfl
      | ⟨2, _⟩ => rfl
    rw [this, mulf_apply, rows_apply y _ T k h E (wrap3_apply I T k E hE), broadcastInDim_apply _ _ _ _ (ix3 T k 0) (fun a => by
      match a with
      | ⟨0, _⟩ => rfl
      | ⟨1, _⟩ => rfl
      | ⟨2, _⟩ => rfl), up3_apply]
  show Ideal.ofBits .f32 0x00000000#32 + ∑ k : Fin 2, _ = _
  rw [Ideal.ofBits_zero_f32, zero_add, Fin.sum_univ_two]
  exact congrArg₂ (· + ·) (term 0 i hi) (term 1 j hj)

/-- The reference at token `T` and column `h`. -/
theorem whole_apply (x : FVec Ideal S4096x256 .f32) (r : FVec Ideal S256x16 .f32) (I : IVec S4096x2 32) (w : FVec Ideal S16x256x512 .f32)
    (T : Fin 4096) (h : Fin 512) (s : Fin 16 → ℝ) (hs : ∀ e, ∑ k : Fin 256, x (ix2 T k) * r (ix2 k e) = (s e : EReal))
    (i j : Fin 16) (hi : I (ix2 T 0) = BitVec.ofNat 32 i.val) (hj : I (ix2 T 1) = BitVec.ofNat 32 j.val) :
    whole x r I w (ix2 T h)
      = (soft (s i) (s j) : EReal) * part (decide (i.val / 4 = T.val / 1024)) (fun k => x (ix2 T k)) (fun k => w (ix3 i k h))
        + (soft (s j) (s i) : EReal) * part (decide (j.val / 4 = T.val / 1024)) (fun k => x (ix2 T k)) (fun k => w (ix3 j k h)) := by
  unfold whole
  obtain ⟨g0, g1⟩ := gates_two (logit x r) I T s (fun e => (logit_apply x r T e).trans (hs e)) i j hi hj
  rw [out_apply _ _ I T h i j hi hj, g0, g1, each_apply, each_apply]

end Cert.ReferenceIdeal.Moe
-- ==== Proof.Algebraic.lean ====
/-
The value claim: each device's output block is its block of the reference's result.
-/
module

public import proofs.«01_k».proof.Defs
public import proofs.«01_k».proof.Proof.Frames
public import proofs.«01_k».proof.Proof.KernelSum
public import proofs.«01_k».proof.Proof.RefValue

@[expose] public section

noncomputable section

namespace Cert.Proof

open Cert.Moe
open Idealize.ShloMosaic hiding ix0 ix1 ix2 ix3 ix4
open Idealize.ShloMosaic.ValueIdx Idealize.SL.Sem
open scoped BigOperators

/-! ## What the precondition says of one element -/

theorem and_one (a b : BitVec 1) (h : IntOp.andi a b = 1#1) : a = 1#1 ∧ b = 1#1 := by
  revert a b; decide

/-- An index the precondition admits names one of the sixteen experts. -/
theorem routed (v : BitVec 32) (h : IntOp.andi (IntOp.cmpi .sge v 0#32) (IntOp.cmpi .slt v 16#32) = 1#1) : ∃ i : Fin 16, v = BitVec.ofNat 32 i.val := by
  obtain ⟨h1, h2⟩ := and_one _ _ h
  have h1 : (0 : ℤ) ≤ v.toInt := by
    have : BitVec.ofBool (decide ((0#32 : BitVec 32).toInt ≤ v.toInt)) = 1#1 := h1
    by_contra hc
    rw [decide_eq_false (by simpa using hc)] at this
    exact absurd this (by decide)
  have h2 : v.toInt < 16 := by
    have : BitVec.ofBool (decide (v.toInt < (16#32 : BitVec 32).toInt)) = 1#1 := h2
    by_contra hc
    rw [decide_eq_false (by rw [show (16#32 : BitVec 32).toInt = 16 by decide]; exact hc)] at this
    exact absurd this (by decide)
  have hn : v.toNat < 16 := by
    have := v.isLt
    rw [BitVec.toInt_eq_toNat_cond] at h1 h2
    split_ifs at h1 h2 <;> omega
  exact ⟨⟨v.toNat, hn⟩, by simp⟩

/-- A value the precondition admits is a real number. -/
theorem finite (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x with
  | bot => exact absurd h (by simp [Ideal.cmp])
  | top => exact absurd h (by simp [Ideal.cmp])
  | coe r => exact ⟨r, rfl⟩

/-! ## The two values meet -/

/-- Row `t` of device `c`'s block in the whole array. -/
def row (c : Fin 4) (t : Fin 1024) : Fin 4096 := ⟨c.val * 1024 + t.val, by have := c.isLt; have := t.isLt; omega⟩

section
open Cert.KernelIdeal Cert.KernelIdeal.Gen Cert.KernelIdeal.Moe

variable (m : (ℓ : Loc Cert.KernelIdeal.nD Cert.KernelIdeal.τ Cert.KernelIdeal.sig) → Buf (Elt Ideal) ℓ) (c : Dev Cert.KernelIdeal.nD)
  (X : FVec Ideal ⟨2, ![4096, 256]⟩ .f32) (R : FVec Ideal ⟨2, ![256, 16]⟩ .f32) (I : IVec ⟨2, ![4096, 2]⟩ 32) (W : FVec Ideal ⟨3, ![16, 256, 512]⟩ .f32)

theorem value_eq (t : Fin 1024) (h : Fin 512)
    (hx : ∀ k : Fin 256, (xin (F := Ideal) m c : FVec Ideal S1024x256 .f32) (ix2 t k) = X (ix2 (row c t) k))
    (hr : (rin (F := Ideal) m c : FVec Ideal S256x16 .f32) = R)
    (hi : ∀ k : Fin 2, (iin (F := Ideal) m c : IVec S1024x2 32) (ix2 t k) = I (ix2 (row c t) k))
    (hw : ∀ (d e : Fin 4) (k : Fin 256), (ein (F := Ideal) m d : FVec Ideal S4x256x512 .f32) (ix3 e k h) = W (ix3 (expert d e) k h))
    (fx : ∀ k : Fin 256, ∃ r : ℝ, X (ix2 (row c t) k) = (r : EReal))
    (fr : ∀ (k : Fin 256) (e : Fin 16), ∃ r : ℝ, R (ix2 k e) = (r : EReal))
    (fi : ∀ k : Fin 2, ∃ i : Fin 16, I (ix2 (row c t) k) = BitVec.ofNat 32 i.val) :
    (A15 m c : FVec Ideal S1024x512 .f32) (ix2 t h) = Cert.ReferenceIdeal.Moe.whole X R I W (ix2 (row c t) h) := by
  choose x' hx' using fx
  choose r' hr' using fr
  obtain ⟨i, h0⟩ := fi 0
  obtain ⟨j, h1⟩ := fi 1
  have hs : ∀ e : Fin 16, ∑ k : Fin 256, X (ix2 (row c t) k) * R (ix2 k e) = ((∑ k : Fin 256, x' k * r' k e : ℝ) : EReal) := fun e => by
    rw [coe_sum]
    refine Finset.sum_congr rfl fun k _ => ?_
    rw [hx', hr', EReal.coe_mul]
  generalize hs' : (fun e : Fin 16 => ∑ k : Fin 256, x' k * r' k e) = s at hs
  have hs : ∀ e : Fin 16, ∑ k : Fin 256, X (ix2 (row c t) k) * R (ix2 k e) = (s e : EReal) := fun e => by rw [← hs']; exact hs e
  let x0 : FVec Ideal S1024x256 .f32 := xin (F := Ideal) m c
  let r0 : FVec Ideal S256x16 .f32 := rin (F := Ideal) m c
  have hk : ∀ e : Fin 16, ∑ k : Fin 256, x0 (ix2 t k) * r0 (ix2 k e) = (s e : EReal) := fun e =>
    (Finset.sum_congr rfl fun k _ => congrArg₂ (fun a b : EReal => a * b) (hx k) (congrFun hr (ix2 k e))).trans (hs e)
  have hG : ∀ e : Fin 16, gates (F := Ideal) m c (ix2 t e)
      = (((if e = i then soft (s i) (s j) else 0) + (if e = j then soft (s j) (s i) else 0) : ℝ) : EReal) := fun e => by
    refine (gates_apply x0 r0 _ _ t i j ((rdI_apply 0 (by decide) _ _ t).trans ((hi 0).trans h0))
      ((rdI_apply 1 (by decide) _ _ t).trans ((hi 1).trans h1)) (s i) (s j) (hk i) (hk j) e).trans ?_
    rw [EReal.coe_add]
    split_ifs <;> simp
  have hA := A15_apply m c t h (fun e => (if e = i then soft (s i) (s j) else 0) + (if e = j then soft (s j) (s i) else 0))
    (fun k => X (ix2 (row c t) k)) (fun E k => W (ix3 E k h))
    (fun k => by
      refine Eq.trans ?_ (hx k)
      exact congrFun (shapeCast_self x0 _) (ix2 t k))
    (fun k => ⟨x' k, hx' k⟩) hG hw
  refine hA.trans ?_
  have hrow : (row c t).val / 1024 = c.val := by
    show (c.val * 1024 + t.val) / 1024 = c.val
    have := t.isLt; omega
  have fin : ∑ e : Fin 16, (((if e = i then soft (s i) (s j) else 0) + (if e = j then soft (s j) (s i) else 0) : ℝ) : EReal)
        * part (decide (e.val / 4 = c.val)) (fun k => X (ix2 (row c t) k)) (fun k => W (ix3 e k h))
      = Cert.ReferenceIdeal.Moe.whole X R I W (ix2 (row c t) h) := by
    rw [Cert.ReferenceIdeal.Moe.whole_apply X R I W (row c t) h s hs i j h0 h1, hrow]
    refine Eq.trans ?_ (pick_two i j (soft (s i) (s j)) (soft (s j) (s i)) (soft_nonneg _ _) (soft_nonneg _ _)
      (fun E => part (decide (E.val / 4 = c.val)) (fun k => X (ix2 (row c t) k)) (fun k => W (ix3 E k h))))
    refine Finset.sum_congr rfl fun e _ => congrArg (· * _) ?_
    rw [EReal.coe_add]
    split_ifs <;> simp
  exact fin

end

/-- The value claim. -/
theorem algebraic : Cert.algebraic_KernelIdeal_ReferenceIdeal_pre_routed_and_finite_KernelIdeal (hKernelIdeal := Cert.KernelIdeal.Gen.facts)
    (hReferenceIdeal := Cert.ReferenceIdeal.Gen.facts) (hPre_routed_and_finite_KernelIdeal := Cert.Pre_routed_and_finite_KernelIdeal.Gen.facts) := by
  intro m g m' g' hpre hin
  refine ⟨Cert.ReferenceIdeal.Value.res_main_v50 m' 0, (θ_run Cert.KernelIdeal.defs _ _).mono (fun r h c => ⟨?_, (h.1 c).2⟩) (ideal_run m g),
    (θ_run Cert.ReferenceIdeal.defs _ _).mono (fun r h => h 0) (Cert.ReferenceIdeal.Value.run m' g')⟩
  rw [(h.1 c).1, Cert.KernelIdeal.Moe.final_out, Cert.ReferenceIdeal.Moe.res_eq]
  funext q
  have hq : q = ix2 (q 0) (q 1) := by
    funext a
    match a with
    | ⟨0, _⟩ => rfl
    | ⟨1, _⟩ => rfl
  have at2 : ∀ {n : ℕ} {α : Type} (hT) (v : (⟨2, ![4096, n]⟩ : Shape).Idx → α) (t : Fin 1024) (k : Fin n),
      Layout.block ⟨2, ![1024, n]⟩ ⟨2, ![4096, n]⟩ 0 4 c v hT (ix2 t k) = v (ix2 (row c t) k) := fun hT v t k =>
    congrArg v (funext fun a => Fin.ext (by
      match a with
      | ⟨0, _⟩ => rfl
      | ⟨1, _⟩ => rfl))
  have at3 : ∀ (d : Fin 4) (hT) (v : (⟨3, ![16, 256, 512]⟩ : Shape).Idx → EReal) (e : Fin 4) (k : Fin 256) (h : Fin 512),
      Layout.block ⟨3, ![4, 256, 512]⟩ ⟨3, ![16, 256, 512]⟩ 0 4 d v hT (ix3 e k h) = v (ix3 (Cert.KernelIdeal.Moe.expert d e) k h) := fun d hT v e k h =>
    congrArg v (funext fun a => Fin.ext (by
      match a with
      | ⟨0, _⟩ => show d.val * 4 + e.val = 4 * d.val + e.val; omega
      | ⟨1, _⟩ => rfl
      | ⟨2, _⟩ => rfl))
  obtain ⟨p1, p2, p3⟩ := hpre c
  rw [hq]
  refine Eq.trans ?_ (at2 (n := 512) _ _ (q 0) (q 1)).symm
  refine value_eq m c _ _ _ _ (q 0) (q 1) (fun k => ?_) ?_ (fun k => ?_) (fun d e k => ?_) (fun k => ?_) (fun k e => ?_) (fun k => ?_)
  · rw [Cert.KernelIdeal.Moe.xin_eq, (hin c).1]; exact at2 _ _ _ k
  · rw [Cert.KernelIdeal.Moe.rin_eq, (hin c).2.1]
  · rw [Cert.KernelIdeal.Moe.iin_eq, (hin c).2.2.1]; exact at2 _ _ _ k
  · rw [Cert.KernelIdeal.Moe.ein_eq, (hin d).2.2.2]; exact at3 d _ _ e k _
  · have := congrFun p2 (ix2 (q 0) k)
    rw [(hin c).1] at this
    obtain ⟨r, hr⟩ := finite _ this
    exact ⟨r, (at2 _ _ _ k).symm.trans hr⟩
  · have := congrFun p3 (ix2 k e)
    rw [(hin c).2.1] at this
    exact finite _ this
  · have := congrFun p1 (ix2 (q 0) k)
    rw [(hin c).2.2.1] at this
    obtain ⟨i, hi⟩ := routed _ this
    exact ⟨i, (at2 _ _ _ k).symm.trans hi⟩

end Cert.Proof

end
-- ==== Proof.lean ====
/-
  The certificate: the frames and the idealisation (Frames.lean), and the value claim (Algebraic.lean).
-/
module

public import proofs.«01_k».proof.Defs
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Pre_routed_and_finite_KernelIdeal.Gen.facts,
    Cert.Pre_routed_and_finite_ReferenceIdeal.Gen.facts,
    frame_kernel, frame_ideal, frame_ideal_pre, frame_reference, frame_reference_pre, preserves, algebraic⟩

end Cert.Proof

end
